-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x3456 : Shape := ⟨3, ![1, 8192, 3456]⟩
abbrev S3456x5120 : Shape := ⟨2, ![3456, 5120]⟩
abbrev S5120 : Shape := ⟨1, ![5120]⟩
abbrev S8192x3456 : Shape := ⟨2, ![8192, 3456]⟩
abbrev S1x5120 : Shape := ⟨2, ![1, 5120]⟩
abbrev S1024x8x5120 : Shape := ⟨3, ![1024, 8, 5120]⟩
abbrev S16x1x512 : Shape := ⟨3, ![16, 1, 512]⟩
abbrev S512x3456 : Shape := ⟨2, ![512, 3456]⟩
abbrev S64x8x5120 : Shape := ⟨3, ![64, 8, 5120]⟩
abbrev S1x1x512 : Shape := ⟨3, ![1, 1, 512]⟩
abbrev S2x512x3456 : Shape := ⟨3, ![2, 512, 3456]⟩
abbrev S2x512x128 : Shape := ⟨3, ![2, 512, 128]⟩
abbrev S32x3456 : Shape := ⟨2, ![32, 3456]⟩
abbrev S32 : Shape := ⟨1, ![32]⟩
abbrev S32x1 : Shape := ⟨2, ![32, 1]⟩
abbrev S1x32x3456 : Shape := ⟨3, ![1, 32, 3456]⟩
abbrev S32x128 : Shape := ⟨2, ![32, 128]⟩
abbrev S1x32x128 : Shape := ⟨3, ![1, 32, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S1x512x3456 : Shape := ⟨3, ![1, 512, 3456]⟩
abbrev S3456x512 : Shape := ⟨2, ![3456, 512]⟩
abbrev S512x512 : Shape := ⟨2, ![512, 512]⟩
abbrev S1x512x128 : Shape := ⟨3, ![1, 512, 128]⟩
abbrev S512x128 : Shape := ⟨2, ![512, 128]⟩
abbrev S1x512 : Shape := ⟨2, ![1, 512]⟩
abbrev S64x8x512 : Shape := ⟨3, ![64, 8, 512]⟩

abbrev nBuf : Space → Nat
  | .hbm => 8
  | .vmem => 12
  | .smem => 0
  | _ => 0

abbrev bufTy : (tb : Table) → Fin (tcTables nBuf tb) → BufTy
  | .hbm, ⟨0, _⟩ => ⟨S1x8192x3456, .bf16⟩
  | .hbm, ⟨1, _⟩ => ⟨S3456x5120, .fp8e4m3⟩
  | .hbm, ⟨2, _⟩ => ⟨S5120, .f32⟩
  | .hbm, ⟨3, _⟩ => ⟨S8192x3456, .bf16⟩
  | .hbm, ⟨4, _⟩ => ⟨S1x5120, .f32⟩
  | .hbm, ⟨5, _⟩ => ⟨S1024x8x5120, .bf16⟩
  | .hbm, ⟨6, _⟩ => ⟨S8192x3456, .fp8e4m3⟩
  | .hbm, ⟨7, _⟩ => ⟨S16x1x512, .f32⟩
  | .local _ .vmem, ⟨0, _⟩ => ⟨S512x3456, .bf16⟩
  | .local _ .vmem, ⟨1, _⟩ => ⟨S512x3456, .bf16⟩
  | .local _ .vmem, ⟨2, _⟩ => ⟨S3456x5120, .fp8e4m3⟩
  | .local _ .vmem, ⟨3, _⟩ => ⟨S1x5120, .f32⟩
  | .local _ .vmem, ⟨4, _⟩ => ⟨S64x8x5120, .bf16⟩
  | .local _ .vmem, ⟨5, _⟩ => ⟨S64x8x5120, .bf16⟩
  | .local _ .vmem, ⟨6, _⟩ => ⟨S512x3456, .fp8e4m3⟩
  | .local _ .vmem, ⟨7, _⟩ => ⟨S512x3456, .fp8e4m3⟩
  | .local _ .vmem, ⟨8, _⟩ => ⟨S1x1x512, .f32⟩
  | .local _ .vmem, ⟨9, _⟩ => ⟨S1x1x512, .f32⟩
  | .local _ .vmem, ⟨10, _⟩ => ⟨S2x512x3456, .fp8e4m3⟩
  | .local _ .vmem, ⟨11, _⟩ => ⟨S2x512x128, .f32⟩
  | _, _ => ⟨S1x8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 3 → Nat :=
  let arg0 : BitVec 32 := BitVec.ofNat 32 (i 0).val
  let c2_i32 : BitVec 32 := 2#32
  let v0 : BitVec 32 := Scalar.remsi arg0 c2_i32
  let v127 : Index := Scalar.indexCast v0
  let c0_38 : Index := 0#32
  let c0_39 : Index := 0#32
  ![v127.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v133 : Index := Scalar.indexCast v0
  let c0_40 : Index := 0#32
  let c0_41 : Index := 0#32
  ![v133.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v256 : Index := Scalar.indexCast v0
  let c32_88 : Index := 32#32
  let c0_89 : Index := 0#32
  ![v256.toNat, 32, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v262 : Index := Scalar.indexCast v0
  let c32_90 : Index := 32#32
  let c0_91 : Index := 0#32
  ![v262.toNat, 32, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v385 : Index := Scalar.indexCast v0
  let c64_138 : Index := 64#32
  let c0_139 : Index := 0#32
  ![v385.toNat, 64, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v391 : Index := Scalar.indexCast v0
  let c64_140 : Index := 64#32
  let c0_141 : Index := 0#32
  ![v391.toNat, 64, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v514 : Index := Scalar.indexCast v0
  let c96_188 : Index := 96#32
  let c0_189 : Index := 0#32
  ![v514.toNat, 96, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v520 : Index := Scalar.indexCast v0
  let c96_190 : Index := 96#32
  let c0_191 : Index := 0#32
  ![v520.toNat, 96, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v643 : Index := Scalar.indexCast v0
  let c128_238 : Index := 128#32
  let c0_239 : Index := 0#32
  ![v643.toNat, 128, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v649 : Index := Scalar.indexCast v0
  let c128_240 : Index := 128#32
  let c0_241 : Index := 0#32
  ![v649.toNat, 128, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v772 : Index := Scalar.indexCast v0
  let c160_288 : Index := 160#32
  let c0_289 : Index := 0#32
  ![v772.toNat, 160, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v778 : Index := Scalar.indexCast v0
  let c160_290 : Index := 160#32
  let c0_291 : Index := 0#32
  ![v778.toNat, 160, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v901 : Index := Scalar.indexCast v0
  let c192_338 : Index := 192#32
  let c0_339 : Index := 0#32
  ![v901.toNat, 192, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v907 : Index := Scalar.indexCast v0
  let c192_340 : Index := 192#32
  let c0_341 : Index := 0#32
  ![v907.toNat, 192, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v1030 : Index := Scalar.indexCast v0
  let c224_388 : Index := 224#32
  let c0_389 : Index := 0#32
  ![v1030.toNat, 224, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v1036 : Index := Scalar.indexCast v0
  let c224_390 : Index := 224#32
  let c0_391 : Index := 0#32
  ![v1036.toNat, 224, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v1159 : Index := Scalar.indexCast v0
  let c256_438 : Index := 256#32
  let c0_439 : Index := 0#32
  ![v1159.toNat, 256, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v1165 : Index := Scalar.indexCast v0
  let c256_440 : Index := 256#32
  let c0_441 : Index := 0#32
  ![v1165.toNat, 256, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v1288 : Index := Scalar.indexCast v0
  let c288_488 : Index := 288#32
  let c0_489 : Index := 0#32
  ![v1288.toNat, 288, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v1294 : Index := Scalar.indexCast v0
  let c288_490 : Index := 288#32
  let c0_491 : Index := 0#32
  ![v1294.toNat, 288, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v1417 : Index := Scalar.indexCast v0
  let c320_538 : Index := 320#32
  let c0_539 : Index := 0#32
  ![v1417.toNat, 320, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v1423 : Index := Scalar.indexCast v0
  let c320_540 : Index := 320#32
  let c0_541 : Index := 0#32
  ![v1423.toNat, 320, 0]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v1546 : Index := Scalar.indexCast v0
  let c352_588 : Index := 352#32
  let c0_589 : Index := 0#32
  ![v1546.toNat, 352, 0]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v1552 : Index := Scalar.indexCast v0
  let c352_590 : Index := 352#32
  let c0_591 : Index := 0#32
  ![v1552.toNat, 352, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v1675 : Index := Scalar.indexCast v0
  let c384_638 : Index := 384#32
  let c0_639 : Index := 0#32
  ![v1675.toNat, 384, 0]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v1681 : Index := Scalar.indexCast v0
  let c384_640 : Index := 384#32
  let c0_641 : Index := 0#32
  ![v1681.toNat, 384, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v1804 : Index := Scalar.indexCast v0
  let c416_688 : Index := 416#32
  let c0_689 : Index := 0#32
  ![v1804.toNat, 416, 0]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v1810 : Index := Scalar.indexCast v0
  let c416_690 : Index := 416#32
  let c0_691 : Index := 0#32
  ![v1810.toNat, 416, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v1933 : Index := Scalar.indexCast v0
  let c448_738 : Index := 448#32
  let c0_739 : Index := 0#32
  ![v1933.toNat, 448, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v1939 : Index := Scalar.indexCast v0
  let c448_740 : Index := 448#32
  let c0_741 : Index := 0#32
  ![v1939.toNat, 448, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v2062 : Index := Scalar.indexCast v0
  let c480_788 : Index := 480#32
  let c0_789 : Index := 0#32
  ![v2062.toNat, 480, 0]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v2068 : Index := Scalar.indexCast v0
  let c480_790 : Index := 480#32
  let c0_791 : Index := 0#32
  ![v2068.toNat, 480, 0]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v2072 : Index := Scalar.indexCast v0
  let c0_792 : Index := 0#32
  let c0_793 : Index := 0#32
  ![v2072.toNat, 0, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v2085 : Index := Scalar.indexCast v0
  let c128_799 : Index := 128#32
  let c0_800 : Index := 0#32
  ![v2085.toNat, 128, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v2098 : Index := Scalar.indexCast v0
  let c256_806 : Index := 256#32
  let c0_807 : Index := 0#32
  ![v2098.toNat, 256, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v2111 : Index := Scalar.indexCast v0
  let c384_813 : Index := 384#32
  let c0_814 : Index := 0#32
  ![v2111.toNat, 384, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_off37 (i : grid0.Coords) : Fin 3 → Nat :=
  let arg0 : BitVec 32 := BitVec.ofNat 32 (i 0).val
  let c2_i32 : BitVec 32 := 2#32
  let v0 : BitVec 32 := Scalar.remsi arg0 c2_i32
  let v127 : Index := Scalar.indexCast v0
  let c0_38 : Index := 0#32
  let c0_39 : Index := 0#32
  ![v127.toNat, 0, 0]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v133 : Index := Scalar.indexCast v0
  let c0_40 : Index := 0#32
  let c0_41 : Index := 0#32
  ![v133.toNat, 0, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v256 : Index := Scalar.indexCast v0
  let c32_88 : Index := 32#32
  let c0_89 : Index := 0#32
  ![v256.toNat, 32, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v262 : Index := Scalar.indexCast v0
  let c32_90 : Index := 32#32
  let c0_91 : Index := 0#32
  ![v262.toNat, 32, 0]
def k0_off41 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v266 : Index := Scalar.indexCast v1
  let c0_92 : Index := 0#32
  let c0_93 : Index := 0#32
  ![v266.toNat, 0, 0]
def k0_off42 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v271 : Index := Scalar.indexCast v1
  let c0_97 : Index := 0#32
  let c0_98 : Index := 0#32
  ![v271.toNat, 0, 0]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v415 : Index := Scalar.indexCast v0
  let c64_154 : Index := 64#32
  let c0_155 : Index := 0#32
  ![v415.toNat, 64, 0]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v421 : Index := Scalar.indexCast v0
  let c64_156 : Index := 64#32
  let c0_157 : Index := 0#32
  ![v421.toNat, 64, 0]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v544 : Index := Scalar.indexCast v0
  let c96_204 : Index := 96#32
  let c0_205 : Index := 0#32
  ![v544.toNat, 96, 0]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v550 : Index := Scalar.indexCast v0
  let c96_206 : Index := 96#32
  let c0_207 : Index := 0#32
  ![v550.toNat, 96, 0]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v703 : Index := Scalar.indexCast v0
  let c128_269 : Index := 128#32
  let c0_270 : Index := 0#32
  ![v703.toNat, 128, 0]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v709 : Index := Scalar.indexCast v0
  let c128_271 : Index := 128#32
  let c0_272 : Index := 0#32
  ![v709.toNat, 128, 0]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v862 : Index := Scalar.indexCast v0
  let c160_334 : Index := 160#32
  let c0_335 : Index := 0#32
  ![v862.toNat, 160, 0]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v868 : Index := Scalar.indexCast v0
  let c160_336 : Index := 160#32
  let c0_337 : Index := 0#32
  ![v868.toNat, 160, 0]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v991 : Index := Scalar.indexCast v0
  let c192_384 : Index := 192#32
  let c0_385 : Index := 0#32
  ![v991.toNat, 192, 0]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v997 : Index := Scalar.indexCast v0
  let c192_386 : Index := 192#32
  let c0_387 : Index := 0#32
  ![v997.toNat, 192, 0]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v1150 : Index := Scalar.indexCast v0
  let c224_449 : Index := 224#32
  let c0_450 : Index := 0#32
  ![v1150.toNat, 224, 0]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v1156 : Index := Scalar.indexCast v0
  let c224_451 : Index := 224#32
  let c0_452 : Index := 0#32
  ![v1156.toNat, 224, 0]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v1309 : Index := Scalar.indexCast v0
  let c256_514 : Index := 256#32
  let c0_515 : Index := 0#32
  ![v1309.toNat, 256, 0]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v1315 : Index := Scalar.indexCast v0
  let c256_516 : Index := 256#32
  let c0_517 : Index := 0#32
  ![v1315.toNat, 256, 0]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v1438 : Index := Scalar.indexCast v0
  let c288_564 : Index := 288#32
  let c0_565 : Index := 0#32
  ![v1438.toNat, 288, 0]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v1444 : Index := Scalar.indexCast v0
  let c288_566 : Index := 288#32
  let c0_567 : Index := 0#32
  ![v1444.toNat, 288, 0]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v1597 : Index := Scalar.indexCast v0
  let c320_629 : Index := 320#32
  let c0_630 : Index := 0#32
  ![v1597.toNat, 320, 0]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v1603 : Index := Scalar.indexCast v0
  let c320_631 : Index := 320#32
  let c0_632 : Index := 0#32
  ![v1603.toNat, 320, 0]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v1726 : Index := Scalar.indexCast v0
  let c352_679 : Index := 352#32
  let c0_680 : Index := 0#32
  ![v1726.toNat, 352, 0]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v1732 : Index := Scalar.indexCast v0
  let c352_681 : Index := 352#32
  let c0_682 : Index := 0#32
  ![v1732.toNat, 352, 0]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v1885 : Index := Scalar.indexCast v0
  let c384_744 : Index := 384#32
  let c0_745 : Index := 0#32
  ![v1885.toNat, 384, 0]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v1891 : Index := Scalar.indexCast v0
  let c384_746 : Index := 384#32
  let c0_747 : Index := 0#32
  ![v1891.toNat, 384, 0]
def k0_off65 (i : grid0.Coords) : Fin 3 → Nat :=
  let arg0 : BitVec 32 := BitVec.ofNat 32 (i 0).val
  let c2_i32 : BitVec 32 := 2#32
  let v0 : BitVec 32 := Scalar.remsi arg0 c2_i32
  let v2044 : Index := Scalar.indexCast v0
  let c416_809 : Index := 416#32
  let c0_810 : Index := 0#32
  ![v2044.toNat, 416, 0]
def k0_off66 (i : grid0.Coords) : Fin 3 → Nat :=
  let arg0 : BitVec 32 := BitVec.ofNat 32 (i 0).val
  let c2_i32 : BitVec 32 := 2#32
  let v0 : BitVec 32 := Scalar.remsi arg0 c2_i32
  let v2050 : Index := Scalar.indexCast v0
  let c416_811 : Index := 416#32
  let c0_812 : Index := 0#32
  ![v2050.toNat, 416, 0]
def k0_off67 (i : grid0.Coords) : Fin 3 → Nat :=
  let arg0 : BitVec 32 := BitVec.ofNat 32 (i 0).val
  let c2_i32 : BitVec 32 := 2#32
  let v0 : BitVec 32 := Scalar.remsi arg0 c2_i32
  let v2173 : Index := Scalar.indexCast v0
  let c448_859 : Index := 448#32
  let c0_860 : Index := 0#32
  ![v2173.toNat, 448, 0]
def k0_off68 (i : grid0.Coords) : Fin 3 → Nat :=
  let arg0 : BitVec 32 := BitVec.ofNat 32 (i 0).val
  let c2_i32 : BitVec 32 := 2#32
  let v0 : BitVec 32 := Scalar.remsi arg0 c2_i32
  let v2179 : Index := Scalar.indexCast v0
  let c448_861 : Index := 448#32
  let c0_862 : Index := 0#32
  ![v2179.toNat, 448, 0]
def k0_off69 (i : grid0.Coords) : Fin 3 → Nat :=
  let arg0 : BitVec 32 := BitVec.ofNat 32 (i 0).val
  let c2_i32 : BitVec 32 := 2#32
  let v0 : BitVec 32 := Scalar.remsi arg0 c2_i32
  let v2332 : Index := Scalar.indexCast v0
  let c480_924 : Index := 480#32
  let c0_925 : Index := 0#32
  ![v2332.toNat, 480, 0]
def k0_off70 (i : grid0.Coords) : Fin 3 → Nat :=
  let arg0 : BitVec 32 := BitVec.ofNat 32 (i 0).val
  let c2_i32 : BitVec 32 := 2#32
  let v0 : BitVec 32 := Scalar.remsi arg0 c2_i32
  let v2338 : Index := Scalar.indexCast v0
  let c480_926 : Index := 480#32
  let c0_927 : Index := 0#32
  ![v2338.toNat, 480, 0]
def k0_off71 (i : grid0.Coords) : Fin 3 → Nat :=
  let arg0 : BitVec 32 := BitVec.ofNat 32 (i 0).val
  let c2_i32 : BitVec 32 := 2#32
  let v0 : BitVec 32 := Scalar.remsi arg0 c2_i32
  let v2372 : Index := Scalar.indexCast v0
  let c0_943 : Index := 0#32
  let c0_944 : Index := 0#32
  ![v2372.toNat, 0, 0]
def k0_off72 (i : grid0.Coords) : Fin 3 → Nat :=
  let arg0 : BitVec 32 := BitVec.ofNat 32 (i 0).val
  let c2_i32 : BitVec 32 := 2#32
  let v0 : BitVec 32 := Scalar.remsi arg0 c2_i32
  let v2385 : Index := Scalar.indexCast v0
  let c128_950 : Index := 128#32
  let c0_951 : Index := 0#32
  ![v2385.toNat, 128, 0]
def k0_off73 (i : grid0.Coords) : Fin 3 → Nat :=
  let arg0 : BitVec 32 := BitVec.ofNat 32 (i 0).val
  let c2_i32 : BitVec 32 := 2#32
  let v0 : BitVec 32 := Scalar.remsi arg0 c2_i32
  let v2398 : Index := Scalar.indexCast v0
  let c256_957 : Index := 256#32
  let c0_958 : Index := 0#32
  ![v2398.toNat, 256, 0]
def k0_off74 (i : grid0.Coords) : Fin 3 → Nat :=
  let arg0 : BitVec 32 := BitVec.ofNat 32 (i 0).val
  let c2_i32 : BitVec 32 := 2#32
  let v0 : BitVec 32 := Scalar.remsi arg0 c2_i32
  let v2411 : Index := Scalar.indexCast v0
  let c384_964 : Index := 384#32
  let c0_965 : Index := 0#32
  ![v2411.toNat, 384, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3456 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x8192x3456 : Shape := ⟨3, ![1, 8192, 3456]⟩
abbrev S3456x5120 : Shape := ⟨2, ![3456, 5120]⟩
abbrev S5120 : Shape := ⟨1, ![5120]⟩
abbrev S8192x3456 : Shape := ⟨2, ![8192, 3456]⟩
abbrev S1x5120 : Shape := ⟨2, ![1, 5120]⟩
abbrev S1024x8x5120 : Shape := ⟨3, ![1024, 8, 5120]⟩
abbrev S16x1x512 : Shape := ⟨3, ![16, 1, 512]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x3456, .bf16⟩
  | .hbm, ⟨1, _⟩ => ⟨S3456x5120, .fp8e4m3⟩
  | .hbm, ⟨2, _⟩ => ⟨S5120, .f32⟩
  | .hbm, ⟨3, _⟩ => ⟨S8192x3456, .bf16⟩
  | .hbm, ⟨4, _⟩ => ⟨S1x5120, .f32⟩
  | .hbm, ⟨5, _⟩ => ⟨S1024x8x5120, .bf16⟩
  | .hbm, ⟨6, _⟩ => ⟨S8192x3456, .fp8e4m3⟩
  | .hbm, ⟨7, _⟩ => ⟨S16x1x512, .f32⟩
  | .local _ .vmem, ⟨0, _⟩ => ⟨S8192x3456, .bf16⟩
  | .local _ .vmem, ⟨1, _⟩ => ⟨S3456x5120, .fp8e4m3⟩
  | .local _ .vmem, ⟨2, _⟩ => ⟨S1x5120, .f32⟩
  | .local _ .vmem, ⟨3, _⟩ => ⟨S1024x8x5120, .bf16⟩
  | .local _ .vmem, ⟨4, _⟩ => ⟨S8192x3456, .fp8e4m3⟩
  | .local _ .vmem, ⟨5, _⟩ => ⟨S16x1x512, .f32⟩
  | _, _ => ⟨S1x8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3456x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrameRuns.lean ====
/- What the runs of the float kernel share: the branch conditions over the grid, the staging and scratch buffers. -/
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, k0_cond1, e0]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x3456 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3456x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8x5120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3456 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x512x3456 .fp8e4m3 := Memref.whole cc0_scratch0
abbrev scM0_1 : Memref sig .tc .vmem S2x512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelFrameA.lean ====
/- The float kernel at the first point: what it writes is not named. -/
module

public import proofs.«01_k».proof.Proof.KernelFrameRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1340000 in
/-- The body's triple IN CASE A (`scf.if` 0 taken, `scf.if` 1 not taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole) (hc0 : cond0_0 i) (hc1 : ¬cond0_1 i)
    (x0 : Vec F S512x3456 .bf16) (x1 : Vec F S3456x5120 .fp8e4m3) (x2 : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_linear_gelu i arg1 harg1 arg2 harg2 arg3 harg3 arg4 harg4 arg5 harg5 arg6 harg6 arg7 harg7 arg8 harg8) K := by
    intro E K
    simp only [cc0_fp8_linear_gelu_eq_skeleton]; unfold cc0_fp8_linear_gelu_skel
    simp only [k0_part51_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Gen

end
-- ==== Proof.KernelFrameB.lean ====
/- The float kernel at a later point: what it writes is not named. -/
module

public import proofs.«01_k».proof.Proof.KernelFrameA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1728000 in
/-- The body's triple IN CASE B (`scf.if` 0 not taken, `scf.if` 1 taken: points 1, 2, … 16: 16 of 17): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole) (hc0 : ¬cond0_0 i) (hc1 : cond0_1 i)
    (x0 : Vec F S512x3456 .bf16) (x1 : Vec F S3456x5120 .fp8e4m3) (x2 : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_linear_gelu i arg1 harg1 arg2 harg2 arg3 harg3 arg4 harg4 arg5 harg5 arg6 harg6 arg7 harg7 arg8 harg8) K := by
    intro E K
    simp only [cc0_fp8_linear_gelu_eq_skeleton]; unfold cc0_fp8_linear_gelu_skel
    simp only [k0_part110_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/- The frame of the float kernel: every run ends and leaves the arguments as they were. -/
module

public import proofs.«01_k».proof.Proof.KernelFrameB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 17 := lt_of_lt_of_eq t.isLt (show cfg0.N = 17 from N_0)
  by_cases h0 : t.val % 17 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Block.lean ====
/- One 32-row block of the quantiser and one 512-column chunk of the layer, each as one function of what it reads. -/
module

public import proofs.«01_k».proof.Proof.Gen.KernelIdeal.Skeleton

@[expose] public section

noncomputable section

namespace Cert.KernelIdeal.Gen

open Idealize.ShloMosaic

variable {F : FTy → Type} [FloatOps F]

/-- The exponent of each row of a block. -/
def blkExp (xb : Vec F S32x3456 .bf16) : IVec S32x1 32 := k0_pay8 (k0_pay4 xb) (k0_pay5 xb) (k0_pay6 xb) k0_pay7

/-- The codes of a block. -/
def blkCodes (xb : Vec F S32x3456 .bf16) : FVec F S32x3456 .fp8e4m3 :=
  k0_pay10 (k0_pay2 xb) (k0_pay3 xb) (blkExp xb) (Scalar.ofBits .f32 0x00000000#32)

/-- The scales of a block, each along its row's 128 lanes. -/
def blkScales (xb : Vec F S32x3456 .bf16) : FVec F S32x128 .f32 :=
  k0_pay12 (k0_pay3 xb) (blkExp xb) (Scalar.ofBits .f32 0x00000000#32)

end Cert.KernelIdeal.Gen

end
-- ==== Proof.Offsets.lean ====
/- Where the kernel's stores and loads of its two scratch buffers stand: the slot is the step's parity, or the other one. -/
module

public import proofs.«01_k».proof.Proof.Gen.KernelIdeal.Skeleton

@[expose] public section

namespace Cert.KernelIdeal.Gen

open Idealize.ShloMosaic

/-- The slot a step fills: its parity. -/
def fillSlot (i : grid0.Coords) : Fin 2 := ⟨(i 0).val % 2, Nat.mod_lt _ (by decide)⟩

/-- The slot a step drains: the other one. -/
def drainSlot (i : grid0.Coords) : Fin 2 := ⟨1 - (i 0).val % 2, by omega⟩

/-- The kernel's word for the slot it fills is the step's parity. -/
theorem fillWord (i : grid0.Coords) :
    (Scalar.indexCast (Scalar.remsi (BitVec.ofNat 32 (i 0).val) 2#32) : Index).toNat = (fillSlot i).val := by
  have h : ∀ n : Fin 17, (Scalar.indexCast (Scalar.remsi (BitVec.ofNat 32 n.val) 2#32) : Index).toNat = n.val % 2 := by
    decide +kernel
  exact h (i 0)

/-- The kernel's word for the slot it drains is the other parity. -/
theorem drainWord (i : grid0.Coords) :
    (Scalar.indexCast (Scalar.subi 1#32 (Scalar.remsi (BitVec.ofNat 32 (i 0).val) 2#32)) : Index).toNat = (drainSlot i).val := by
  have h : ∀ n : Fin 17,
      (Scalar.indexCast (Scalar.subi 1#32 (Scalar.remsi (BitVec.ofNat 32 n.val) 2#32)) : Index).toNat = 1 - n.val % 2 := by
    decide +kernel
  exact h (i 0)

theorem off1 (i : grid0.Coords) : k0_off1 i = ![(fillSlot i).val, 0, 0] := congrArg (fun s => ![s, 0, 0]) (fillWord i)
theorem off2 (i : grid0.Coords) : k0_off2 i = ![(fillSlot i).val, 0, 0] := congrArg (fun s => ![s, 0, 0]) (fillWord i)
theorem off3 (i : grid0.Coords) : k0_off3 i = ![(fillSlot i).val, 32, 0] := congrArg (fun s => ![s, 32, 0]) (fillWord i)
theorem off4 (i : grid0.Coords) : k0_off4 i = ![(fillSlot i).val, 32, 0] := congrArg (fun s => ![s, 32, 0]) (fillWord i)
theorem off5 (i : grid0.Coords) : k0_off5 i = ![(fillSlot i).val, 64, 0] := congrArg (fun s => ![s, 64, 0]) (fillWord i)
theorem off6 (i : grid0.Coords) : k0_off6 i = ![(fillSlot i).val, 64, 0] := congrArg (fun s => ![s, 64, 0]) (fillWord i)
theorem off7 (i : grid0.Coords) : k0_off7 i = ![(fillSlot i).val, 96, 0] := congrArg (fun s => ![s, 96, 0]) (fillWord i)
theorem off8 (i : grid0.Coords) : k0_off8 i = ![(fillSlot i).val, 96, 0] := congrArg (fun s => ![s, 96, 0]) (fillWord i)
theorem off9 (i : grid0.Coords) : k0_off9 i = ![(fillSlot i).val, 128, 0] := congrArg (fun s => ![s, 128, 0]) (fillWord i)
theorem off10 (i : grid0.Coords) : k0_off10 i = ![(fillSlot i).val, 128, 0] := congrArg (fun s => ![s, 128, 0]) (fillWord i)
theorem off11 (i : grid0.Coords) : k0_off11 i = ![(fillSlot i).val, 160, 0] := congrArg (fun s => ![s, 160, 0]) (fillWord i)
theorem off12 (i : grid0.Coords) : k0_off12 i = ![(fillSlot i).val, 160, 0] := congrArg (fun s => ![s, 160, 0]) (fillWord i)
theorem off13 (i : grid0.Coords) : k0_off13 i = ![(fillSlot i).val, 192, 0] := congrArg (fun s => ![s, 192, 0]) (fillWord i)
theorem off14 (i : grid0.Coords) : k0_off14 i = ![(fillSlot i).val, 192, 0] := congrArg (fun s => ![s, 192, 0]) (fillWord i)
theorem off15 (i : grid0.Coords) : k0_off15 i = ![(fillSlot i).val, 224, 0] := congrArg (fun s => ![s, 224, 0]) (fillWord i)
theorem off16 (i : grid0.Coords) : k0_off16 i = ![(fillSlot i).val, 224, 0] := congrArg (fun s => ![s, 224, 0]) (fillWord i)
theorem off17 (i : grid0.Coords) : k0_off17 i = ![(fillSlot i).val, 256, 0] := congrArg (fun s => ![s, 256, 0]) (fillWord i)
theorem off18 (i : grid0.Coords) : k0_off18 i = ![(fillSlot i).val, 256, 0] := congrArg (fun s => ![s, 256, 0]) (fillWord i)
theorem off19 (i : grid0.Coords) : k0_off19 i = ![(fillSlot i).val, 288, 0] := congrArg (fun s => ![s, 288, 0]) (fillWord i)
theorem off20 (i : grid0.Coords) : k0_off20 i = ![(fillSlot i).val, 288, 0] := congrArg (fun s => ![s, 288, 0]) (fillWord i)
theorem off21 (i : grid0.Coords) : k0_off21 i = ![(fillSlot i).val, 320, 0] := congrArg (fun s => ![s, 320, 0]) (fillWord i)
theorem off22 (i : grid0.Coords) : k0_off22 i = ![(fillSlot i).val, 320, 0] := congrArg (fun s => ![s, 320, 0]) (fillWord i)
theorem off23 (i : grid0.Coords) : k0_off23 i = ![(fillSlot i).val, 352, 0] := congrArg (fun s => ![s, 352, 0]) (fillWord i)
theorem off24 (i : grid0.Coords) : k0_off24 i = ![(fillSlot i).val, 352, 0] := congrArg (fun s => ![s, 352, 0]) (fillWord i)
theorem off25 (i : grid0.Coords) : k0_off25 i = ![(fillSlot i).val, 384, 0] := congrArg (fun s => ![s, 384, 0]) (fillWord i)
theorem off26 (i : grid0.Coords) : k0_off26 i = ![(fillSlot i).val, 384, 0] := congrArg (fun s => ![s, 384, 0]) (fillWord i)
theorem off27 (i : grid0.Coords) : k0_off27 i = ![(fillSlot i).val, 416, 0] := congrArg (fun s => ![s, 416, 0]) (fillWord i)
theorem off28 (i : grid0.Coords) : k0_off28 i = ![(fillSlot i).val, 416, 0] := congrArg (fun s => ![s, 416, 0]) (fillWord i)
theorem off29 (i : grid0.Coords) : k0_off29 i = ![(fillSlot i).val, 448, 0] := congrArg (fun s => ![s, 448, 0]) (fillWord i)
theorem off30 (i : grid0.Coords) : k0_off30 i = ![(fillSlot i).val, 448, 0] := congrArg (fun s => ![s, 448, 0]) (fillWord i)
theorem off31 (i : grid0.Coords) : k0_off31 i = ![(fillSlot i).val, 480, 0] := congrArg (fun s => ![s, 480, 0]) (fillWord i)
theorem off32 (i : grid0.Coords) : k0_off32 i = ![(fillSlot i).val, 480, 0] := congrArg (fun s => ![s, 480, 0]) (fillWord i)
theorem off33 (i : grid0.Coords) : k0_off33 i = ![(fillSlot i).val, 0, 0] := congrArg (fun s => ![s, 0, 0]) (fillWord i)
theorem off34 (i : grid0.Coords) : k0_off34 i = ![(fillSlot i).val, 128, 0] := congrArg (fun s => ![s, 128, 0]) (fillWord i)
theorem off35 (i : grid0.Coords) : k0_off35 i = ![(fillSlot i).val, 256, 0] := congrArg (fun s => ![s, 256, 0]) (fillWord i)
theorem off36 (i : grid0.Coords) : k0_off36 i = ![(fillSlot i).val, 384, 0] := congrArg (fun s => ![s, 384, 0]) (fillWord i)
theorem off37 (i : grid0.Coords) : k0_off37 i = ![(fillSlot i).val, 0, 0] := congrArg (fun s => ![s, 0, 0]) (fillWord i)
theorem off38 (i : grid0.Coords) : k0_off38 i = ![(fillSlot i).val, 0, 0] := congrArg (fun s => ![s, 0, 0]) (fillWord i)
theorem off39 (i : grid0.Coords) : k0_off39 i = ![(fillSlot i).val, 32, 0] := congrArg (fun s => ![s, 32, 0]) (fillWord i)
theorem off40 (i : grid0.Coords) : k0_off40 i = ![(fillSlot i).val, 32, 0] := congrArg (fun s => ![s, 32, 0]) (fillWord i)
theorem off41 (i : grid0.Coords) : k0_off41 i = ![(drainSlot i).val, 0, 0] := congrArg (fun s => ![s, 0, 0]) (drainWord i)
theorem off42 (i : grid0.Coords) : k0_off42 i = ![(drainSlot i).val, 0, 0] := congrArg (fun s => ![s, 0, 0]) (drainWord i)
theorem off43 (i : grid0.Coords) : k0_off43 i = ![(fillSlot i).val, 64, 0] := congrArg (fun s => ![s, 64, 0]) (fillWord i)
theorem off44 (i : grid0.Coords) : k0_off44 i = ![(fillSlot i).val, 64, 0] := congrArg (fun s => ![s, 64, 0]) (fillWord i)
theorem off45 (i : grid0.Coords) : k0_off45 i = ![(fillSlot i).val, 96, 0] := congrArg (fun s => ![s, 96, 0]) (fillWord i)
theorem off46 (i : grid0.Coords) : k0_off46 i = ![(fillSlot i).val, 96, 0] := congrArg (fun s => ![s, 96, 0]) (fillWord i)
theorem off47 (i : grid0.Coords) : k0_off47 i = ![(fillSlot i).val, 128, 0] := congrArg (fun s => ![s, 128, 0]) (fillWord i)
theorem off48 (i : grid0.Coords) : k0_off48 i = ![(fillSlot i).val, 128, 0] := congrArg (fun s => ![s, 128, 0]) (fillWord i)
theorem off49 (i : grid0.Coords) : k0_off49 i = ![(fillSlot i).val, 160, 0] := congrArg (fun s => ![s, 160, 0]) (fillWord i)
theorem off50 (i : grid0.Coords) : k0_off50 i = ![(fillSlot i).val, 160, 0] := congrArg (fun s => ![s, 160, 0]) (fillWord i)
theorem off51 (i : grid0.Coords) : k0_off51 i = ![(fillSlot i).val, 192, 0] := congrArg (fun s => ![s, 192, 0]) (fillWord i)
theorem off52 (i : grid0.Coords) : k0_off52 i = ![(fillSlot i).val, 192, 0] := congrArg (fun s => ![s, 192, 0]) (fillWord i)
theorem off53 (i : grid0.Coords) : k0_off53 i = ![(fillSlot i).val, 224, 0] := congrArg (fun s => ![s, 224, 0]) (fillWord i)
theorem off54 (i : grid0.Coords) : k0_off54 i = ![(fillSlot i).val, 224, 0] := congrArg (fun s => ![s, 224, 0]) (fillWord i)
theorem off55 (i : grid0.Coords) : k0_off55 i = ![(fillSlot i).val, 256, 0] := congrArg (fun s => ![s, 256, 0]) (fillWord i)
theorem off56 (i : grid0.Coords) : k0_off56 i = ![(fillSlot i).val, 256, 0] := congrArg (fun s => ![s, 256, 0]) (fillWord i)
theorem off57 (i : grid0.Coords) : k0_off57 i = ![(fillSlot i).val, 288, 0] := congrArg (fun s => ![s, 288, 0]) (fillWord i)
theorem off58 (i : grid0.Coords) : k0_off58 i = ![(fillSlot i).val, 288, 0] := congrArg (fun s => ![s, 288, 0]) (fillWord i)
theorem off59 (i : grid0.Coords) : k0_off59 i = ![(fillSlot i).val, 320, 0] := congrArg (fun s => ![s, 320, 0]) (fillWord i)
theorem off60 (i : grid0.Coords) : k0_off60 i = ![(fillSlot i).val, 320, 0] := congrArg (fun s => ![s, 320, 0]) (fillWord i)
theorem off61 (i : grid0.Coords) : k0_off61 i = ![(fillSlot i).val, 352, 0] := congrArg (fun s => ![s, 352, 0]) (fillWord i)
theorem off62 (i : grid0.Coords) : k0_off62 i = ![(fillSlot i).val, 352, 0] := congrArg (fun s => ![s, 352, 0]) (fillWord i)
theorem off63 (i : grid0.Coords) : k0_off63 i = ![(fillSlot i).val, 384, 0] := congrArg (fun s => ![s, 384, 0]) (fillWord i)
theorem off64 (i : grid0.Coords) : k0_off64 i = ![(fillSlot i).val, 384, 0] := congrArg (fun s => ![s, 384, 0]) (fillWord i)
theorem off65 (i : grid0.Coords) : k0_off65 i = ![(fillSlot i).val, 416, 0] := congrArg (fun s => ![s, 416, 0]) (fillWord i)
theorem off66 (i : grid0.Coords) : k0_off66 i = ![(fillSlot i).val, 416, 0] := congrArg (fun s => ![s, 416, 0]) (fillWord i)
theorem off67 (i : grid0.Coords) : k0_off67 i = ![(fillSlot i).val, 448, 0] := congrArg (fun s => ![s, 448, 0]) (fillWord i)
theorem off68 (i : grid0.Coords) : k0_off68 i = ![(fillSlot i).val, 448, 0] := congrArg (fun s => ![s, 448, 0]) (fillWord i)
theorem off69 (i : grid0.Coords) : k0_off69 i = ![(fillSlot i).val, 480, 0] := congrArg (fun s => ![s, 480, 0]) (fillWord i)
theorem off70 (i : grid0.Coords) : k0_off70 i = ![(fillSlot i).val, 480, 0] := congrArg (fun s => ![s, 480, 0]) (fillWord i)
theorem off71 (i : grid0.Coords) : k0_off71 i = ![(fillSlot i).val, 0, 0] := congrArg (fun s => ![s, 0, 0]) (fillWord i)
theorem off72 (i : grid0.Coords) : k0_off72 i = ![(fillSlot i).val, 128, 0] := congrArg (fun s => ![s, 128, 0]) (fillWord i)
theorem off73 (i : grid0.Coords) : k0_off73 i = ![(fillSlot i).val, 256, 0] := congrArg (fun s => ![s, 256, 0]) (fillWord i)
theorem off74 (i : grid0.Coords) : k0_off74 i = ![(fillSlot i).val, 384, 0] := congrArg (fun s => ![s, 384, 0]) (fillWord i)

end Cert.KernelIdeal.Gen
-- ==== Proof.Fill.lean ====
/- The sixteen stores by which one step fills its tile, as one recursion over the row blocks, and what a read after them finds. -/
module

public import proofs.«01_k».proof.Proof.Block
public import proofs.«01_k».proof.Proof.Offsets
public import Idealize.ShloMosaic.Lib.Pointwise
public import Idealize.ShloMosaic.Lib.WholeRead
public import Idealize.ShloMosaic.Lib.WritesUnit

@[expose] public section

noncomputable section

namespace Cert.KernelIdeal.Gen

open Idealize.ShloMosaic

variable {F : FTy → Type} [FloatOps F]

/-- The codes of a block as one slot's rows hold them. -/
def blkCodes3 (xb : Vec F S32x3456 .bf16) : FVec F S1x32x3456 .fp8e4m3 :=
  k0_pay11 (k0_pay2 xb) (k0_pay3 xb) (blkExp xb) (Scalar.ofBits .f32 0x00000000#32)

/-- The scales of a block as one slot's rows hold them. -/
def blkScales3 (xb : Vec F S32x3456 .bf16) : FVec F S1x32x128 .f32 := k0_pay13 (blkScales xb)

/-- Rows `32 k … 32 k + 31` of a tile. -/
def rows (x : Vec F S512x3456 .bf16) (k : ℕ) : Vec F S32x3456 .bf16 := fun z =>
  x (ix2 (n0 := 512) (n1 := 3456) ⟨(32 * k + (z 0).val) % 512, Nat.mod_lt _ (by decide)⟩ (z 1))

theorem inb2 (k : ℕ) (hk : k < 16) : ∀ a : Fin S512x3456.rank, (![32 * k, 0] : Fin 2 → ℕ) a + (![32, 3456] : Fin 2 → ℕ) a ≤ S512x3456.size a := by
  intro a
  match a with
  | ⟨0, _⟩ => show 32 * k + 32 ≤ 512; omega
  | ⟨1, _⟩ => show 0 + 3456 ≤ 3456; omega

theorem inb7 (s : Fin 2) (k : ℕ) (hk : k < 16) :
    ∀ a : Fin S2x512x3456.rank, (![s.val, 32 * k, 0] : Fin 3 → ℕ) a + (![1, 32, 3456] : Fin 3 → ℕ) a ≤ S2x512x3456.size a := by
  intro a
  match a with
  | ⟨0, _⟩ => show s.val + 1 ≤ 2; omega
  | ⟨1, _⟩ => show 32 * k + 32 ≤ 512; omega
  | ⟨2, _⟩ => show 0 + 3456 ≤ 3456; omega

theorem inb8 (s : Fin 2) (k : ℕ) (hk : k < 16) :
    ∀ a : Fin S2x512x128.rank, (![s.val, 32 * k, 0] : Fin 3 → ℕ) a + (![1, 32, 128] : Fin 3 → ℕ) a ≤ S2x512x128.size a := by
  intro a
  match a with
  | ⟨0, _⟩ => show s.val + 1 ≤ 2; omega
  | ⟨1, _⟩ => show 32 * k + 32 ≤ 512; omega
  | ⟨2, _⟩ => show 0 + 128 ≤ 128; omega

/-- A load of 32 rows of a whole buffer that holds the tile. -/
theorem rows_read (m : Memref sig .tc .vmem S512x3456 .bf16) (h : m.IsWhole) (x : Vec F S512x3456 .bf16) (k : ℕ) (hk : k < 16) :
    View.readAt (Elt F) m.view (Rect.unit (s := S512x3456) ![32 * k, 0] ![32, 3456] (inb2 k hk)).toLoadRect (h.unread x) = rows x k := by
  funext z
  rw [h.readAt_unread]
  refine congrArg x (funext fun a => Fin.ext ?_)
  match a with
  | ⟨0, _⟩ =>
    have hz : (z 0).val < 32 := (z 0).isLt
    show 32 * k + 1 * (z 0).val = (32 * k + (z 0).val) % 512
    omega
  | ⟨1, _⟩ =>
    show 0 + 1 * (z 1).val = (z 1).val
    omega

/-- The first `k` stores of codes into the codes block. -/
def fill5 (x : Vec F S512x3456 .bf16) : (k : ℕ) → k ≤ 16 → List (View.Piece (Elt F) S512x3456 .fp8e4m3)
  | 0, _ => []
  | k + 1, h => ⟨Rect.unit (s := S512x3456) ![32 * k, 0] ![32, 3456] (inb2 k h), blkCodes (rows x k)⟩ :: fill5 x k (Nat.le_of_succ_le h)

/-- The first `k` stores of codes into a slot. -/
def fill7 (s : Fin 2) (x : Vec F S512x3456 .bf16) : (k : ℕ) → k ≤ 16 → List (View.Piece (Elt F) S2x512x3456 .fp8e4m3)
  | 0, _ => []
  | k + 1, h => ⟨Rect.unit (s := S2x512x3456) ![s.val, 32 * k, 0] ![1, 32, 3456] (inb7 s k h), blkCodes3 (rows x k)⟩ :: fill7 s x k (Nat.le_of_succ_le h)

/-- The first `k` stores of scales into a slot. -/
def fill8 (s : Fin 2) (x : Vec F S512x3456 .bf16) : (k : ℕ) → k ≤ 16 → List (View.Piece (Elt F) S2x512x128 .f32)
  | 0, _ => []
  | k + 1, h => ⟨Rect.unit (s := S2x512x128) ![s.val, 32 * k, 0] ![1, 32, 128] (inb8 s k h), blkScales3 (rows x k)⟩ :: fill8 s x k (Nat.le_of_succ_le h)

/-- The codes of a tile, row block by row block. -/
def tileCodes (x : Vec F S512x3456 .bf16) : Vec F S512x3456 .fp8e4m3 := fun y =>
  blkCodes (rows x ((y 0).val / 32)) (ix2 (n0 := 32) (n1 := 3456) ⟨(y 0).val % 32, Nat.mod_lt _ (by decide)⟩ (y 1))

/-- The scales of a tile along 128 lanes, row block by row block. -/
def tileScales (x : Vec F S512x3456 .bf16) : Vec F S512x128 .f32 := fun y =>
  blkScales (rows x ((y 0).val / 32)) (ix2 (n0 := 32) (n1 := 128) ⟨(y 0).val % 32, Nat.mod_lt _ (by decide)⟩ (y 1))

theorem blkCodes3_apply (xb : Vec F S32x3456 .bf16) (z : S1x32x3456.Idx) :
    blkCodes3 xb z = blkCodes xb (ix2 (n0 := 32) (n1 := 3456) (z 1) (z 2)) := by
  idx_vars z
  unfold blkCodes3 k0_pay11 blkCodes
  generalize k0_pay10 (k0_pay2 xb) (k0_pay3 xb) (blkExp xb) (Scalar.ofBits .f32 0x00000000#32) = w
  pointwise

theorem blkScales3_apply (xb : Vec F S32x3456 .bf16) (z : S1x32x128.Idx) :
    blkScales3 xb z = blkScales xb (ix2 (n0 := 32) (n1 := 128) (z 1) (z 2)) := by
  idx_vars z
  unfold blkScales3 k0_pay13
  generalize blkScales xb = w
  pointwise

section Reads
variable {sp : Space} {κ : Kind}

/-- A read of the codes block at a filled row. -/
theorem read_fill5 (v : View sig κ sp S512x3456 .fp8e4m3) (f : v.ty.Contents (Elt F)) (x : Vec F S512x3456 .bf16) :
    ∀ (k : ℕ) (hk : k ≤ 16) (y : S512x3456.Idx), (y 0).val < 32 * k →
      v.read (Elt F) (v.writes (Elt F) f (fill5 x k hk)) y = tileCodes x y
  | 0, _, y, h => absurd h (by omega)
  | k + 1, hk, y, h => by
    by_cases hy : (y 0).val < 32 * k
    · refine (View.read_writes_cons_miss_of_axis v f _ _ y (0 : Fin 2) (32 * k) 32 rfl rfl rfl (Or.inl hy)).trans ?_
      exact read_fill5 v f x k _ y hy
    · have e : (y 0).val / 32 = k := by omega
      refine (View.read_writes_cons_hit_of_coords v f _ _ _
        (ix2 (n0 := 32) (n1 := 3456) ⟨(y 0).val % 32, Nat.mod_lt _ (by decide)⟩ (y 1)) y ?_).trans ?_
      · intro a
        match a with
        | ⟨0, _⟩ => show (y 0).val = 32 * k + 1 * ((y 0).val % 32); omega
        | ⟨1, _⟩ => show (y 1).val = 0 + 1 * (y 1).val; omega
      · unfold tileCodes
        rw [e]

/-- A read of a slot's codes at a filled row. -/
theorem read_fill7 (v : View sig κ sp S2x512x3456 .fp8e4m3) (f : v.ty.Contents (Elt F)) (s : Fin 2) (x : Vec F S512x3456 .bf16) :
    ∀ (k : ℕ) (hk : k ≤ 16) (y : S2x512x3456.Idx), (y 0).val = s.val → (y 1).val < 32 * k →
      v.read (Elt F) (v.writes (Elt F) f (fill7 s x k hk)) y = tileCodes x (ix2 (n0 := 512) (n1 := 3456) (y 1) (y 2))
  | 0, _, y, _, h => absurd h (by omega)
  | k + 1, hk, y, hs, h => by
    by_cases hy : (y 1).val < 32 * k
    · refine (View.read_writes_cons_miss_of_axis v f _ _ y (1 : Fin 3) (32 * k) 32 rfl rfl rfl (Or.inl hy)).trans ?_
      exact read_fill7 v f s x k _ y hs hy
    · have e : (y 1).val / 32 = k := by omega
      refine (View.read_writes_cons_hit_of_coords v f _ _ _
        (ix3 (n0 := 1) (n1 := 32) (n2 := 3456) 0 ⟨(y 1).val % 32, Nat.mod_lt _ (by decide)⟩ (y 2)) y ?_).trans ?_
      · intro a
        match a with
        | ⟨0, _⟩ => show (y 0).val = s.val + 1 * 0; omega
        | ⟨1, _⟩ => show (y 1).val = 32 * k + 1 * ((y 1).val % 32); omega
        | ⟨2, _⟩ => show (y 2).val = 0 + 1 * (y 2).val; omega
      · refine (blkCodes3_apply _ _).trans ?_
        unfold tileCodes
        rw [← e]
        rfl

/-- A read of the other slot's codes. -/
theorem read_fill7_other (v : View sig κ sp S2x512x3456 .fp8e4m3) (f : v.ty.Contents (Elt F)) (s : Fin 2) (x : Vec F S512x3456 .bf16) :
    ∀ (k : ℕ) (hk : k ≤ 16) (y : S2x512x3456.Idx), (y 0).val ≠ s.val →
      v.read (Elt F) (v.writes (Elt F) f (fill7 s x k hk)) y = v.read (Elt F) f y
  | 0, _, _, _ => rfl
  | k + 1, hk, y, hs => by
    refine (View.read_writes_cons_miss_of_axis v f _ _ y (0 : Fin 3) s.val 1 rfl rfl rfl (by omega)).trans ?_
    exact read_fill7_other v f s x k _ y hs

/-- A read of a slot's scales at a filled row. -/
theorem read_fill8 (v : View sig κ sp S2x512x128 .f32) (f : v.ty.Contents (Elt F)) (s : Fin 2) (x : Vec F S512x3456 .bf16) :
    ∀ (k : ℕ) (hk : k ≤ 16) (y : S2x512x128.Idx), (y 0).val = s.val → (y 1).val < 32 * k →
      v.read (Elt F) (v.writes (Elt F) f (fill8 s x k hk)) y = tileScales x (ix2 (n0 := 512) (n1 := 128) (y 1) (y 2))
  | 0, _, y, _, h => absurd h (by omega)
  | k + 1, hk, y, hs, h => by
    by_cases hy : (y 1).val < 32 * k
    · refine (View.read_writes_cons_miss_of_axis v f _ _ y (1 : Fin 3) (32 * k) 32 rfl rfl rfl (Or.inl hy)).trans ?_
      exact read_fill8 v f s x k _ y hs hy
    · have e : (y 1).val / 32 = k := by omega
      refine (View.read_writes_cons_hit_of_coords v f _ _ _
        (ix3 (n0 := 1) (n1 := 32) (n2 := 128) 0 ⟨(y 1).val % 32, Nat.mod_lt _ (by decide)⟩ (y 2)) y ?_).trans ?_
      · intro a
        match a with
        | ⟨0, _⟩ => show (y 0).val = s.val + 1 * 0; omega
        | ⟨1, _⟩ => show (y 1).val = 32 * k + 1 * ((y 1).val % 32); omega
        | ⟨2, _⟩ => show (y 2).val = 0 + 1 * (y 2).val; omega
      · refine (blkScales3_apply _ _).trans ?_
        unfold tileScales
        rw [← e]
        rfl

/-- A read of the other slot's scales. -/
theorem read_fill8_other (v : View sig κ sp S2x512x128 .f32) (f : v.ty.Contents (Elt F)) (s : Fin 2) (x : Vec F S512x3456 .bf16) :
    ∀ (k : ℕ) (hk : k ≤ 16) (y : S2x512x128.Idx), (y 0).val ≠ s.val →
      v.read (Elt F) (v.writes (Elt F) f (fill8 s x k hk)) y = v.read (Elt F) f y
  | 0, _, _, _ => rfl
  | k + 1, hk, y, hs => by
    refine (View.read_writes_cons_miss_of_axis v f _ _ y (0 : Fin 3) s.val 1 rfl rfl rfl (by omega)).trans ?_
    exact read_fill8_other v f s x k _ y hs

end Reads

end Cert.KernelIdeal.Gen

end
-- ==== Proof.Drain.lean ====
/- The ten column chunks of the layer that a step stores, the four groups of scales, and what a read after them finds. -/
module

public import proofs.«01_k».proof.Proof.Fill

@[expose] public section

noncomputable section

namespace Cert.KernelIdeal.Gen

open Idealize.ShloMosaic

variable {F : FTy → Type} [FloatOps F]

/-- One 512-column chunk of a tile's result, from the tile's codes, the chunk's weights, the tile's scales and the chunk's weight scales. -/
def chunkY (q : Vec F S1x512x3456 .fp8e4m3) (w : Vec F S3456x512 .fp8e4m3) (sc : Vec F S1x512x128 .f32) (ws : Vec F S1x512 .f32) :
    FVec F S64x8x512 .bf16 := k0_pay235 q w sc ws

/-- 128 rows' scales, each along its row, gathered into one row of 128 lanes. -/
def lanes (v : Vec F S1x128x128 .f32) : FVec F S1x1x128 .f32 := k0_pay205 v

/-- The codes of one slot. -/
def slot7 (s : Fin 2) (v : Vec F S2x512x3456 .fp8e4m3) : Vec F S1x512x3456 .fp8e4m3 := fun z =>
  v (ix3 (n0 := 2) (n1 := 512) (n2 := 3456) s (z 1) (z 2))

/-- The scales of one slot. -/
def slot8 (s : Fin 2) (v : Vec F S2x512x128 .f32) : Vec F S1x512x128 .f32 := fun z =>
  v (ix3 (n0 := 2) (n1 := 512) (n2 := 128) s (z 1) (z 2))

/-- Columns `512 k … 512 k + 511` of the weights. -/
def wcols (w : Vec F S3456x5120 .fp8e4m3) (k : ℕ) : Vec F S3456x512 .fp8e4m3 := fun z =>
  w (ix2 (n0 := 3456) (n1 := 5120) (z 0) ⟨(512 * k + (z 1).val) % 5120, Nat.mod_lt _ (by decide)⟩)

/-- The same columns' scales. -/
def wscols (w : Vec F S1x5120 .f32) (k : ℕ) : Vec F S1x512 .f32 := fun z =>
  w (ix2 (n0 := 1) (n1 := 5120) (z 0) ⟨(512 * k + (z 1).val) % 5120, Nat.mod_lt _ (by decide)⟩)

/-- The scales of rows `128 k … 128 k + 127` of a tile, along the lanes. -/
def scaleRows (x : Vec F S512x3456 .bf16) (k : ℕ) : Vec F S1x128x128 .f32 := fun z =>
  tileScales x (ix2 (n0 := 512) (n1 := 128) ⟨(128 * k + (z 1).val) % 512, Nat.mod_lt _ (by decide)⟩ (z 2))

theorem inb4 (k : ℕ) (hk : k < 10) :
    ∀ a : Fin S64x8x5120.rank, (![0, 0, 512 * k] : Fin 3 → ℕ) a + (![64, 8, 512] : Fin 3 → ℕ) a ≤ S64x8x5120.size a := by
  intro a
  match a with
  | ⟨0, _⟩ => show 0 + 64 ≤ 64; omega
  | ⟨1, _⟩ => show 0 + 8 ≤ 8; omega
  | ⟨2, _⟩ => show 512 * k + 512 ≤ 5120; omega

theorem inb6 (k : ℕ) (hk : k < 4) :
    ∀ a : Fin S1x1x512.rank, (![0, 0, 128 * k] : Fin 3 → ℕ) a + (![1, 1, 128] : Fin 3 → ℕ) a ≤ S1x1x512.size a := by
  intro a
  match a with
  | ⟨0, _⟩ => show 0 + 1 ≤ 1; omega
  | ⟨1, _⟩ => show 0 + 1 ≤ 1; omega
  | ⟨2, _⟩ => show 128 * k + 128 ≤ 512; omega

theorem inbW (k : ℕ) (hk : k < 10) :
    ∀ a : Fin S3456x5120.rank, (![0, 512 * k] : Fin 2 → ℕ) a + (![3456, 512] : Fin 2 → ℕ) a ≤ S3456x5120.size a := by
  intro a
  match a with
  | ⟨0, _⟩ => show 0 + 3456 ≤ 3456; omega
  | ⟨1, _⟩ => show 512 * k + 512 ≤ 5120; omega

theorem inbS (k : ℕ) (hk : k < 10) :
    ∀ a : Fin S1x5120.rank, (![0, 512 * k] : Fin 2 → ℕ) a + (![1, 512] : Fin 2 → ℕ) a ≤ S1x5120.size a := by
  intro a
  match a with
  | ⟨0, _⟩ => show 0 + 1 ≤ 1; omega
  | ⟨1, _⟩ => show 512 * k + 512 ≤ 5120; omega

/-- The first `k` stores of chunks into the result block. -/
def fill4 (q : Vec F S1x512x3456 .fp8e4m3) (w : Vec F S3456x5120 .fp8e4m3) (sc : Vec F S1x512x128 .f32) (ws : Vec F S1x5120 .f32) :
    (k : ℕ) → k ≤ 10 → List (View.Piece (Elt F) S64x8x5120 .bf16)
  | 0, _ => []
  | k + 1, h => ⟨Rect.unit (s := S64x8x5120) ![0, 0, 512 * k] ![64, 8, 512] (inb4 k h), chunkY q (wcols w k) sc (wscols ws k)⟩
      :: fill4 q w sc ws k (Nat.le_of_succ_le h)

/-- The first `k` stores of scales into the scales block. -/
def fill6 (x : Vec F S512x3456 .bf16) : (k : ℕ) → k ≤ 4 → List (View.Piece (Elt F) S1x1x512 .f32)
  | 0, _ => []
  | k + 1, h => ⟨Rect.unit (s := S1x1x512) ![0, 0, 128 * k] ![1, 1, 128] (inb6 k h), lanes (scaleRows x k)⟩
      :: fill6 x k (Nat.le_of_succ_le h)

/-- A tile's result block, chunk by chunk. -/
def tileY (q : Vec F S1x512x3456 .fp8e4m3) (w : Vec F S3456x5120 .fp8e4m3) (sc : Vec F S1x512x128 .f32) (ws : Vec F S1x5120 .f32) :
    Vec F S64x8x5120 .bf16 := fun y =>
  chunkY q (wcols w ((y 2).val / 512)) sc (wscols ws ((y 2).val / 512))
    (ix3 (n0 := 64) (n1 := 8) (n2 := 512) (y 0) (y 1) ⟨(y 2).val % 512, Nat.mod_lt _ (by decide)⟩)

/-- A tile's scales block, group by group. -/
def tileScaleRow (x : Vec F S512x3456 .bf16) : Vec F S1x1x512 .f32 := fun y =>
  lanes (scaleRows x ((y 2).val / 128)) (ix3 (n0 := 1) (n1 := 1) (n2 := 128) (y 0) (y 1) ⟨(y 2).val % 128, Nat.mod_lt _ (by decide)⟩)

/-- A payload that is a chunk of four loads is that chunk of what the loads find. -/
theorem chunk_of {p : FVec F S64x8x512 .bf16} {q q' : Vec F S1x512x3456 .fp8e4m3} {w w' : Vec F S3456x512 .fp8e4m3}
    {sc sc' : Vec F S1x512x128 .f32} {ws ws' : Vec F S1x512 .f32} (h : p = chunkY q w sc ws) (h1 : q = q') (h2 : w = w') (h3 : sc = sc')
    (h4 : ws = ws') : p = chunkY q' w' sc' ws' := by
  subst h1; subst h2; subst h3; subst h4; exact h

/-- A payload that gathers a load's scales is that gathering of what the load finds. -/
theorem lanes_of {p : FVec F S1x1x128 .f32} {v v' : Vec F S1x128x128 .f32} (h : p = lanes v) (h1 : v = v') : p = lanes v' := by
  subst h1; exact h

/-- Two stores of equal payloads at equal offsets, into the result block. -/
theorem pc4 {off off' : Fin 3 → ℕ} {inb : ∀ a : Fin S64x8x5120.rank, off a + (![64, 8, 512] : Fin 3 → ℕ) a ≤ S64x8x5120.size a}
    {inb' : ∀ a : Fin S64x8x5120.rank, off' a + (![64, 8, 512] : Fin 3 → ℕ) a ≤ S64x8x5120.size a} {p p' : FVec F S64x8x512 .bf16} (ho : off = off') (hw : p = p') :
    (⟨Rect.unit (s := S64x8x5120) off ![64, 8, 512] inb, p⟩ : View.Piece (Elt F) S64x8x5120 .bf16) = ⟨Rect.unit (s := S64x8x5120) off' ![64, 8, 512] inb', p'⟩ := by
  subst ho; subst hw; rfl

/-- Two stores of equal payloads at equal offsets, into the codes block. -/
theorem pc5 {off off' : Fin 2 → ℕ} {inb : ∀ a : Fin S512x3456.rank, off a + (![32, 3456] : Fin 2 → ℕ) a ≤ S512x3456.size a}
    {inb' : ∀ a : Fin S512x3456.rank, off' a + (![32, 3456] : Fin 2 → ℕ) a ≤ S512x3456.size a} {p p' : FVec F S32x3456 .fp8e4m3} (ho : off = off') (hw : p = p') :
    (⟨Rect.unit (s := S512x3456) off ![32, 3456] inb, p⟩ : View.Piece (Elt F) S512x3456 .fp8e4m3) = ⟨Rect.unit (s := S512x3456) off' ![32, 3456] inb', p'⟩ := by
  subst ho; subst hw; rfl

/-- Two stores of equal payloads at equal offsets, into the scales block. -/
theorem pc6 {off off' : Fin 3 → ℕ} {inb : ∀ a : Fin S1x1x512.rank, off a + (![1, 1, 128] : Fin 3 → ℕ) a ≤ S1x1x512.size a}
    {inb' : ∀ a : Fin S1x1x512.rank, off' a + (![1, 1, 128] : Fin 3 → ℕ) a ≤ S1x1x512.size a} {p p' : FVec F S1x1x128 .f32} (ho : off = off') (hw : p = p') :
    (⟨Rect.unit (s := S1x1x512) off ![1, 1, 128] inb, p⟩ : View.Piece (Elt F) S1x1x512 .f32) = ⟨Rect.unit (s := S1x1x512) off' ![1, 1, 128] inb', p'⟩ := by
  subst ho; subst hw; rfl

/-- Two stores of equal payloads at equal offsets, into the slots' codes. -/
theorem pc7 {off off' : Fin 3 → ℕ} {inb : ∀ a : Fin S2x512x3456.rank, off a + (![1, 32, 3456] : Fin 3 → ℕ) a ≤ S2x512x3456.size a}
    {inb' : ∀ a : Fin S2x512x3456.rank, off' a + (![1, 32, 3456] : Fin 3 → ℕ) a ≤ S2x512x3456.size a} {p p' : FVec F S1x32x3456 .fp8e4m3} (ho : off = off') (hw : p = p') :
    (⟨Rect.unit (s := S2x512x3456) off ![1, 32, 3456] inb, p⟩ : View.Piece (Elt F) S2x512x3456 .fp8e4m3) = ⟨Rect.unit (s := S2x512x3456) off' ![1, 32, 3456] inb', p'⟩ := by
  subst ho; subst hw; rfl

/-- Two stores of equal payloads at equal offsets, into the slots' scales. -/
theorem pc8 {off off' : Fin 3 → ℕ} {inb : ∀ a : Fin S2x512x128.rank, off a + (![1, 32, 128] : Fin 3 → ℕ) a ≤ S2x512x128.size a}
    {inb' : ∀ a : Fin S2x512x128.rank, off' a + (![1, 32, 128] : Fin 3 → ℕ) a ≤ S2x512x128.size a} {p p' : FVec F S1x32x128 .f32} (ho : off = off') (hw : p = p') :
    (⟨Rect.unit (s := S2x512x128) off ![1, 32, 128] inb, p⟩ : View.Piece (Elt F) S2x512x128 .f32) = ⟨Rect.unit (s := S2x512x128) off' ![1, 32, 128] inb', p'⟩ := by
  subst ho; subst hw; rfl

section Reads
variable {sp : Space} {κ : Kind}

/-- A load of the drained slot's codes, in the middle of the stores into the other slot. -/
theorem drain7 (i : grid0.Coords) (m : Memref sig .tc .vmem S2x512x3456 .fp8e4m3) (h : m.IsWhole) (s0 : Vec F S2x512x3456 .fp8e4m3)
    (x : Vec F S512x3456 .bf16) {L : List (View.Piece (Elt F) S2x512x3456 .fp8e4m3)} {k : ℕ} {hk : k ≤ 16} (hL : L = fill7 (fillSlot i) x k hk)
    {off : Fin 3 → ℕ} (ho : off = ![(drainSlot i).val, 0, 0])
    {inb : ∀ a : Fin S2x512x3456.rank, off a + (![1, 512, 3456] : Fin 3 → ℕ) a ≤ S2x512x3456.size a} :
    View.readAt (Elt F) m.view (Rect.unit (s := S2x512x3456) off ![1, 512, 3456] inb).toLoadRect (m.view.writes (Elt F) (h.unread s0) L)
      = slot7 (drainSlot i) s0 := by
  subst hL; subst ho
  funext z
  have hz : (z 0).val < 1 := (z 0).isLt
  have hi := Nat.mod_two_eq_zero_or_one (i 0).val
  rw [View.readAt_apply]
  refine (read_fill7_other m.view _ (fillSlot i) x k hk _ ?_).trans ?_
  · show 1 - (i 0).val % 2 + 1 * (z 0).val ≠ (i 0).val % 2
    omega
  · rw [h.read_unread]
    refine congrArg s0 (funext fun a => Fin.ext ?_)
    match a with
    | ⟨0, _⟩ => show 1 - (i 0).val % 2 + 1 * (z 0).val = 1 - (i 0).val % 2; omega
    | ⟨1, _⟩ => show 0 + 1 * (z 1).val = (z 1).val; omega
    | ⟨2, _⟩ => show 0 + 1 * (z 2).val = (z 2).val; omega

/-- A load of the drained slot's scales, in the middle of the stores into the other slot. -/
theorem drain8 (i : grid0.Coords) (m : Memref sig .tc .vmem S2x512x128 .f32) (h : m.IsWhole) (s1 : Vec F S2x512x128 .f32)
    (x : Vec F S512x3456 .bf16) {L : List (View.Piece (Elt F) S2x512x128 .f32)} {k : ℕ} {hk : k ≤ 16} (hL : L = fill8 (fillSlot i) x k hk)
    {off : Fin 3 → ℕ} (ho : off = ![(drainSlot i).val, 0, 0])
    {inb : ∀ a : Fin S2x512x128.rank, off a + (![1, 512, 128] : Fin 3 → ℕ) a ≤ S2x512x128.size a} :
    View.readAt (Elt F) m.view (Rect.unit (s := S2x512x128) off ![1, 512, 128] inb).toLoadRect (m.view.writes (Elt F) (h.unread s1) L)
      = slot8 (drainSlot i) s1 := by
  subst hL; subst ho
  funext z
  have hz : (z 0).val < 1 := (z 0).isLt
  have hi := Nat.mod_two_eq_zero_or_one (i 0).val
  rw [View.readAt_apply]
  refine (read_fill8_other m.view _ (fillSlot i) x k hk _ ?_).trans ?_
  · show 1 - (i 0).val % 2 + 1 * (z 0).val ≠ (i 0).val % 2
    omega
  · rw [h.read_unread]
    refine congrArg s1 (funext fun a => Fin.ext ?_)
    match a with
    | ⟨0, _⟩ => show 1 - (i 0).val % 2 + 1 * (z 0).val = 1 - (i 0).val % 2; omega
    | ⟨1, _⟩ => show 0 + 1 * (z 1).val = (z 1).val; omega
    | ⟨2, _⟩ => show 0 + 1 * (z 2).val = (z 2).val; omega

/-- A load of 128 rows of the scales just stored. -/
theorem scales_read (m : Memref sig .tc .vmem S2x512x128 .f32) (s : Fin 2) (x : Vec F S512x3456 .bf16)
    {L : List (View.Piece (Elt F) S2x512x128 .f32)} (hL : L = fill8 s x 16 (Nat.le_refl _)) (k : ℕ) (hk : k < 4)
    {off : Fin 3 → ℕ} (ho : off = ![s.val, 128 * k, 0])
    {inb : ∀ a : Fin S2x512x128.rank, off a + (![1, 128, 128] : Fin 3 → ℕ) a ≤ S2x512x128.size a} :
    m.view.readCov L (Rect.unit (s := S2x512x128) off ![1, 128, 128] inb).toLoadRect = scaleRows x k := by
  subst hL; subst ho
  funext z
  have hz : (z 0).val < 1 := (z 0).isLt
  have hz1 : (z 1).val < 128 := (z 1).isLt
  unfold View.readCov
  rw [View.readAt_apply]
  refine (read_fill8 m.view _ s x 16 _ _ ?_ ?_).trans ?_
  · show s.val + 1 * (z 0).val = s.val
    omega
  · show 128 * k + 1 * (z 1).val < 32 * 16
    omega
  · refine congrArg (tileScales x) (funext fun a => Fin.ext ?_)
    match a with
    | ⟨0, _⟩ => show 128 * k + 1 * (z 1).val = (128 * k + (z 1).val) % 512; omega
    | ⟨1, _⟩ => show 0 + 1 * (z 2).val = (z 2).val; omega

/-- A load of 512 columns of the weights. -/
theorem wcols_read (m : Memref sig .tc .vmem S3456x5120 .fp8e4m3) (h : m.IsWhole) (w : Vec F S3456x5120 .fp8e4m3) (k : ℕ) (hk : k < 10) :
    View.readAt (Elt F) m.view (Rect.unit (s := S3456x5120) ![0, 512 * k] ![3456, 512] (inbW k hk)).toLoadRect (h.unread w) = wcols w k := by
  funext z
  have hz : (z 1).val < 512 := (z 1).isLt
  rw [h.readAt_unread]
  refine congrArg w (funext fun a => Fin.ext ?_)
  match a with
  | ⟨0, _⟩ => show 0 + 1 * (z 0).val = (z 0).val; omega
  | ⟨1, _⟩ => show 512 * k + 1 * (z 1).val = (512 * k + (z 1).val) % 5120; omega

/-- A load of 512 columns' scales. -/
theorem wscols_read (m : Memref sig .tc .vmem S1x5120 .f32) (h : m.IsWhole) (w : Vec F S1x5120 .f32) (k : ℕ) (hk : k < 10) :
    View.readAt (Elt F) m.view (Rect.unit (s := S1x5120) ![0, 512 * k] ![1, 512] (inbS k hk)).toLoadRect (h.unread w) = wscols w k := by
  funext z
  have hz : (z 1).val < 512 := (z 1).isLt
  rw [h.readAt_unread]
  refine congrArg w (funext fun a => Fin.ext ?_)
  match a with
  | ⟨0, _⟩ => show 0 + 1 * (z 0).val = (z 0).val; omega
  | ⟨1, _⟩ => show 512 * k + 1 * (z 1).val = (512 * k + (z 1).val) % 5120; omega

/-- A read of the result block at a stored column. -/
theorem read_fill4 (v : View sig κ sp S64x8x5120 .bf16) (f : v.ty.Contents (Elt F)) (q : Vec F S1x512x3456 .fp8e4m3)
    (w : Vec F S3456x5120 .fp8e4m3) (sc : Vec F S1x512x128 .f32) (ws : Vec F S1x5120 .f32) :
    ∀ (k : ℕ) (hk : k ≤ 10) (y : S64x8x5120.Idx), (y 2).val < 512 * k →
      v.read (Elt F) (v.writes (Elt F) f (fill4 q w sc ws k hk)) y = tileY q w sc ws y
  | 0, _, y, h => absurd h (by omega)
  | k + 1, hk, y, h => by
    by_cases hy : (y 2).val < 512 * k
    · refine (View.read_writes_cons_miss_of_axis v f _ _ y (2 : Fin 3) (512 * k) 512 rfl rfl rfl (Or.inl hy)).trans ?_
      exact read_fill4 v f q w sc ws k _ y hy
    · have e : (y 2).val / 512 = k := by omega
      refine (View.read_writes_cons_hit_of_coords v f _ _ _
        (ix3 (n0 := 64) (n1 := 8) (n2 := 512) (y 0) (y 1) ⟨(y 2).val % 512, Nat.mod_lt _ (by decide)⟩) y ?_).trans ?_
      · intro a
        match a with
        | ⟨0, _⟩ => show (y 0).val = 0 + 1 * (y 0).val; omega
        | ⟨1, _⟩ => show (y 1).val = 0 + 1 * (y 1).val; omega
        | ⟨2, _⟩ => show (y 2).val = 512 * k + 1 * ((y 2).val % 512); omega
      · unfold tileY
        rw [e]

/-- A read of the scales block at a stored lane. -/
theorem read_fill6 (v : View sig κ sp S1x1x512 .f32) (f : v.ty.Contents (Elt F)) (x : Vec F S512x3456 .bf16) :
    ∀ (k : ℕ) (hk : k ≤ 4) (y : S1x1x512.Idx), (y 2).val < 128 * k →
      v.read (Elt F) (v.writes (Elt F) f (fill6 x k hk)) y = tileScaleRow x y
  | 0, _, y, h => absurd h (by omega)
  | k + 1, hk, y, h => by
    by_cases hy : (y 2).val < 128 * k
    · refine (View.read_writes_cons_miss_of_axis v f _ _ y (2 : Fin 3) (128 * k) 128 rfl rfl rfl (Or.inl hy)).trans ?_
      exact read_fill6 v f x k _ y hy
    · have e : (y 2).val / 128 = k := by omega
      refine (View.read_writes_cons_hit_of_coords v f _ _ _
        (ix3 (n0 := 1) (n1 := 1) (n2 := 128) (y 0) (y 1) ⟨(y 2).val % 128, Nat.mod_lt _ (by decide)⟩) y ?_).trans ?_
      · intro a
        match a with
        | ⟨0, _⟩ => show (y 0).val = 0 + 1 * (y 0).val; omega
        | ⟨1, _⟩ => show (y 1).val = 0 + 1 * (y 1).val; omega
        | ⟨2, _⟩ => show (y 2).val = 128 * k + 1 * ((y 2).val % 128); omega
      · unfold tileScaleRow
        rw [e]

end Reads

end Cert.KernelIdeal.Gen

end
-- ==== Proof.Steps.lean ====
/- What the steps of the kernel leave in the scratch and in the blocks, and the invariant carried between them. -/
module

public import proofs.«01_k».proof.Proof.Drain
public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, k0_cond1, e0]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x3456 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3456x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8x5120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3456 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x512x3456 .fp8e4m3 := Memref.whole cc0_scratch0
abbrev scM0_1 : Memref sig .tc .vmem S2x512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The result's window is idle at the first point only, and not written back there. -/
theorem idleAt0_3 : ∀ t : Fin cfg0.N, t.val = 0 → cfg0.idle 3 (grid0.coords t) = true :=
  (by decide +kernel : ∀ t : Fin grid0.N, t.val = 0 → cfg0.idle 3 (grid0.coords t) = true)
theorem noFlush0_3 : ∀ t : Fin cfg0.N, t.val = 0 → (cfg0.win 3).flush t = false :=
  (by decide +kernel : ∀ t : Fin grid0.N, t.val = 0 → win0_3.flush t = false)
theorem liveAt0_3 : ∀ t : Fin cfg0.N, 1 ≤ t.val → cfg0.idle 3 (grid0.coords t) = false :=
  (by decide +kernel : ∀ t : Fin grid0.N, 1 ≤ t.val → cfg0.idle 3 (grid0.coords t) = false)
/-- The windows of the codes and of the scales are never idle. -/
theorem liveAt0_4 : ∀ t : Fin cfg0.N, cfg0.idle 4 (grid0.coords t) = false :=
  (by decide +kernel : ∀ t : Fin grid0.N, cfg0.idle 4 (grid0.coords t) = false)
theorem liveAt0_5 : ∀ t : Fin cfg0.N, cfg0.idle 5 (grid0.coords t) = false :=
  (by decide +kernel : ∀ t : Fin grid0.N, cfg0.idle 5 (grid0.coords t) = false)
/-- A point's coordinate is its number. -/
theorem coords_eq : ∀ t : Fin cfg0.N, (grid0.coords t 0).val = t.val :=
  (by decide +kernel : ∀ t : Fin grid0.N, (grid0.coords t 0).val = t.val)

/-! ## What the steps leave -/

/-- A tile's codes and scales as the scratch slot holds them. -/
def tileCodes3 (x : Vec F S512x3456 .bf16) : Vec F S1x512x3456 .fp8e4m3 := fun z => tileCodes x (ix2 (n0 := 512) (n1 := 3456) (z 1) (z 2))
def tileScales3 (x : Vec F S512x3456 .bf16) : Vec F S1x512x128 .f32 := fun z => tileScales x (ix2 (n0 := 512) (n1 := 128) (z 1) (z 2))

/-- The slot the step numbered `n` fills. -/
def parity (n : ℕ) : Fin 2 := ⟨n % 2, Nat.mod_lt _ (by decide)⟩

theorem fillSlot_eq (t : Fin cfg0.N) : fillSlot (grid0.coords t) = parity t.val := by
  unfold fillSlot parity; simp only [coords_eq]

theorem drainSlot_eq (t u : Fin cfg0.N) (h : u.val + 1 = t.val) : drainSlot (grid0.coords t) = parity u.val := by
  unfold drainSlot parity; simp only [coords_eq]; apply Fin.ext; show 1 - t.val % 2 = u.val % 2; omega

/-- Before the step numbered `n`, the slot of the step before holds its tile's codes and scales. -/
def SlotsOk (c : Dev nD) (n : ℕ) (s0 : Vec F S2x512x3456 .fp8e4m3) (s1 : Vec F S2x512x128 .f32) : Prop :=
  ∀ u : Fin cfg0.N, u.val + 1 = n → slot7 (parity u.val) s0 = tileCodes3 (iblk m c 0 u) ∧ slot8 (parity u.val) s1 = tileScales3 (iblk m c 0 u)

/-- The invariant carried from step to step. -/
def PhiR (c : Dev nD) (n : ℕ) : sProp 𝕄 :=
  iprop((∃ s0, ∃ s1, ⌜SlotsOk m c n s0 s1⌝ ∗ owns (c : Thread nD τ) scM0_0 fullShare s0 ∗ owns (c : Thread nD τ) scM0_1 fullShare s1) ∗ (∃ r, prngReg c r))

/-- The point before. -/
def prevPt (t : Fin cfg0.N) : Fin cfg0.N := ⟨t.val - 1, lt_of_le_of_lt (Nat.sub_le _ _) t.isLt⟩

/-- The result block a step after the first leaves: the previous tile's. -/
def yAt (c : Dev nD) (t : Fin cfg0.N) : Vec F S64x8x5120 .bf16 :=
  tileY (tileCodes3 (iblk m c 0 (prevPt t))) (iblk m c 1 t) (tileScales3 (iblk m c 0 (prevPt t))) (iblk m c 2 t)

/-- The whole scratch buffers after a step's stores: the slot it fills holds its tile. -/
theorem slot7_fill (mm : Memref sig .tc .vmem S2x512x3456 .fp8e4m3) (f : mm.view.ty.Contents (Elt F)) (s : Fin 2) (x : Vec F S512x3456 .bf16) :
    slot7 s (mm.view.read (Elt F) (mm.view.writes (Elt F) f (fill7 s x 16 (Nat.le_refl _)))) = tileCodes3 x := by
  funext z
  exact read_fill7 mm.view f s x 16 (Nat.le_refl _) _ rfl (z 1).isLt

theorem slot8_fill (mm : Memref sig .tc .vmem S2x512x128 .f32) (f : mm.view.ty.Contents (Elt F)) (s : Fin 2) (x : Vec F S512x3456 .bf16) :
    slot8 s (mm.view.read (Elt F) (mm.view.writes (Elt F) f (fill8 s x 16 (Nat.le_refl _)))) = tileScales3 x := by
  funext z
  exact read_fill8 mm.view f s x 16 (Nat.le_refl _) _ rfl (z 1).isLt

/-- The blocks after all their stores. -/
theorem read5 (v : View sig .tc .vmem S512x3456 .fp8e4m3) (f : v.ty.Contents (Elt F)) (x : Vec F S512x3456 .bf16) :
    v.read (Elt F) (v.writes (Elt F) f (fill5 x 16 (Nat.le_refl _))) = tileCodes x := by
  funext y
  exact read_fill5 v f x 16 (Nat.le_refl _) y (y 0).isLt

theorem read6 (v : View sig .tc .vmem S1x1x512 .f32) (f : v.ty.Contents (Elt F)) (x : Vec F S512x3456 .bf16) :
    v.read (Elt F) (v.writes (Elt F) f (fill6 x 4 (Nat.le_refl _))) = tileScaleRow x := by
  funext y
  exact read_fill6 v f x 4 (Nat.le_refl _) y (y 2).isLt

theorem read4 (v : View sig .tc .vmem S64x8x5120 .bf16) (f : v.ty.Contents (Elt F)) (q : Vec F S1x512x3456 .fp8e4m3)
    (w : Vec F S3456x5120 .fp8e4m3) (sc : Vec F S1x512x128 .f32) (ws : Vec F S1x5120 .f32) :
    v.read (Elt F) (v.writes (Elt F) f (fill4 q w sc ws 10 (Nat.le_refl _))) = tileY q w sc ws := by
  funext y
  exact read_fill4 v f q w sc ws 10 (Nat.le_refl _) y (y 2).isLt

/-- What a step's stores leave in the scratch is what the next step's invariant asks. -/
theorem slotsOk_succ (c : Dev nD) (t : Fin cfg0.N) (s0 : Vec F S2x512x3456 .fp8e4m3) (s1 : Vec F S2x512x128 .f32)
    (h0 : slot7 (fillSlot (grid0.coords t)) s0 = tileCodes3 (iblk m c 0 t)) (h1 : slot8 (fillSlot (grid0.coords t)) s1 = tileScales3 (iblk m c 0 t)) :
    SlotsOk m c (t.val + 1) s0 s1 := by
  intro u hu
  obtain rfl : u = t := Fin.ext (by omega)
  rw [fillSlot_eq] at h0 h1
  exact ⟨h0, h1⟩

end Cert.KernelIdeal.Gen

end
-- ==== Proof.RunA.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the first point. -/
def runA (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : k0_cond1 i = 1#1) (hc1 : ¬ k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    Σ' (L5 : List (View.Piece (Elt F) S512x3456 .fp8e4m3)) (L6 : List (View.Piece (Elt F) S1x1x512 .f32)) (L7 : List (View.Piece (Elt F) S2x512x3456 .fp8e4m3)), { L8 : List (View.Piece (Elt F) S2x512x128 .f32) //
      ∀ (f4 : arg4.view.ty.Contents (Elt F)) (f5 : arg5.view.ty.Contents (Elt F)) (f6 : arg6.view.ty.Contents (Elt F)) (E : Set ℕ) (K : PUnit → sProp 𝕄),
        iprop(owns (c : Thread nD τ) arg1 fullShare x0 ∗ owns (c : Thread nD τ) arg2 fullShare x1 ∗ owns (c : Thread nD τ) arg3 fullShare x2
            ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
            ∗ owns (c : Thread nD τ) arg7 fullShare s0 ∗ owns (c : Thread nD τ) arg8 fullShare s1
            ∗ (iprop(owns (c : Thread nD τ) arg1 fullShare x0 ∗ owns (c : Thread nD τ) arg2 fullShare x1 ∗ owns (c : Thread nD τ) arg3 fullShare x2
            ∗ (arg4.view.loc (c : Thread nD τ) ↦[arg4.view.set]{fullShare} f4) ∗ (arg5.view.loc (c : Thread nD τ) ↦[arg5.view.set]{fullShare} arg5.view.writes (Elt F) f5 L5) ∗ (arg6.view.loc (c : Thread nD τ) ↦[arg6.view.set]{fullShare} arg6.view.writes (Elt F) f6 L6)
            ∗ (arg7.view.loc (c : Thread nD τ) ↦[arg7.view.set]{fullShare} arg7.view.writes (Elt F) (harg7.unread s0) L7) ∗ (arg8.view.loc (c : Thread nD τ) ↦[arg8.view.set]{fullShare} arg8.view.writes (Elt F) (harg8.unread s1) L8)) -∗ K ⟨⟩))
          ⊢ wp frame (wpE (defs₀ (F := F)) Variants.none c none) E (cc0_fp8_linear_gelu i arg1 harg1 arg2 harg2 arg3 harg3 arg4 harg4 arg5 harg5 arg6 harg6 arg7 harg7 arg8 harg8) K } := by
  refine ⟨?_, ?_, ?_, ?_, fun f4 f5 f6 E K => ?run⟩
  case run =>
    simp only [cc0_fp8_linear_gelu_eq_skeleton]; unfold cc0_fp8_linear_gelu_skel
    simp only [k0_part51_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, H3, H4, H5, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    isplitl [H4]
    · iexact H4
    isplitl [H5]
    · iexact H5
    isplitl [HS0]
    · iexact HS0
    iexact HS1

end Cert.KernelIdeal.Gen

end
-- ==== Proof.PiecesA.lean ====
/- The stores of the first step: its tile's codes and scales. -/
module

public import proofs.«01_k».proof.Proof.RunA
public import proofs.«01_k».proof.Proof.Drain

@[expose] public section

set_option maxRecDepth 16384
set_option maxHeartbeats 1000000

noncomputable section

namespace Cert.KernelIdeal.Gen

open Idealize.ShloMosaic Idealize.ShloMosaic.TcCoe

variable {F : FTy → Type} [FloatOps F]

/-- The stores of scales into the slot. -/
theorem HS1A_eq (c : Dev nD) (i : grid0.Coords) (arg1 : Memref sig .tc .vmem S512x3456 .bf16) (harg1 : arg1.IsWhole) (hc0 : k0_cond1 i = 1#1) (x0 : Vec F S512x3456 .bf16) :
    runA.sl.HS1_16 c i arg1 harg1 hc0 x0 = fill8 (fillSlot i) x0 16 (by decide) :=
  congrArg₂ List.cons (pc8 (off32 i) (congrArg blkScales3 (rows_read arg1 harg1 x0 15 (by decide)))) <|
    congrArg₂ List.cons (pc8 (off30 i) (congrArg blkScales3 (rows_read arg1 harg1 x0 14 (by decide)))) <|
    congrArg₂ List.cons (pc8 (off28 i) (congrArg blkScales3 (rows_read arg1 harg1 x0 13 (by decide)))) <|
    congrArg₂ List.cons (pc8 (off26 i) (congrArg blkScales3 (rows_read arg1 harg1 x0 12 (by decide)))) <|
    congrArg₂ List.cons (pc8 (off24 i) (congrArg blkScales3 (rows_read arg1 harg1 x0 11 (by decide)))) <|
    congrArg₂ List.cons (pc8 (off22 i) (congrArg blkScales3 (rows_read arg1 harg1 x0 10 (by decide)))) <|
    congrArg₂ List.cons (pc8 (off20 i) (congrArg blkScales3 (rows_read arg1 harg1 x0 9 (by decide)))) <|
    congrArg₂ List.cons (pc8 (off18 i) (congrArg blkScales3 (rows_read arg1 harg1 x0 8 (by decide)))) <|
    congrArg₂ List.cons (pc8 (off16 i) (congrArg blkScales3 (rows_read arg1 harg1 x0 7 (by decide)))) <|
    congrArg₂ List.cons (pc8 (off14 i) (congrArg blkScales3 (rows_read arg1 harg1 x0 6 (by decide)))) <|
    congrArg₂ List.cons (pc8 (off12 i) (congrArg blkScales3 (rows_read arg1 harg1 x0 5 (by decide)))) <|
    congrArg₂ List.cons (pc8 (off10 i) (congrArg blkScales3 (rows_read arg1 harg1 x0 4 (by decide)))) <|
    congrArg₂ List.cons (pc8 (off8 i) (congrArg blkScales3 (rows_read arg1 harg1 x0 3 (by decide)))) <|
    congrArg₂ List.cons (pc8 (off6 i) (congrArg blkScales3 (rows_read arg1 harg1 x0 2 (by decide)))) <|
    congrArg₂ List.cons (pc8 (off4 i) (congrArg blkScales3 (rows_read arg1 harg1 x0 1 (by decide)))) <|
    congrArg₂ List.cons (pc8 (off2 i) (congrArg blkScales3 (rows_read arg1 harg1 x0 0 (by decide)))) <|
    rfl

/-- The stores into the codes block. -/
theorem runA_L5 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : k0_cond1 i = 1#1) (hc1 : ¬ k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runA c i arg1 harg1 arg2 harg2 arg3 harg3 arg4 harg4 arg5 harg5 arg6 harg6 arg7 harg7 arg8 harg8 hc0 hc1 x0 x1 x2 s0 s1).1 = fill5 x0 16 (Nat.le_refl _) :=
  congrArg₂ List.cons (pc5 rfl (congrArg blkCodes (rows_read arg1 harg1 x0 15 (by decide)))) <|
    congrArg₂ List.cons (pc5 rfl (congrArg blkCodes (rows_read arg1 harg1 x0 14 (by decide)))) <|
    congrArg₂ List.cons (pc5 rfl (congrArg blkCodes (rows_read arg1 harg1 x0 13 (by decide)))) <|
    congrArg₂ List.cons (pc5 rfl (congrArg blkCodes (rows_read arg1 harg1 x0 12 (by decide)))) <|
    congrArg₂ List.cons (pc5 rfl (congrArg blkCodes (rows_read arg1 harg1 x0 11 (by decide)))) <|
    congrArg₂ List.cons (pc5 rfl (congrArg blkCodes (rows_read arg1 harg1 x0 10 (by decide)))) <|
    congrArg₂ List.cons (pc5 rfl (congrArg blkCodes (rows_read arg1 harg1 x0 9 (by decide)))) <|
    congrArg₂ List.cons (pc5 rfl (congrArg blkCodes (rows_read arg1 harg1 x0 8 (by decide)))) <|
    congrArg₂ List.cons (pc5 rfl (congrArg blkCodes (rows_read arg1 harg1 x0 7 (by decide)))) <|
    congrArg₂ List.cons (pc5 rfl (congrArg blkCodes (rows_read arg1 harg1 x0 6 (by decide)))) <|
    congrArg₂ List.cons (pc5 rfl (congrArg blkCodes (rows_read arg1 harg1 x0 5 (by decide)))) <|
    congrArg₂ List.cons (pc5 rfl (congrArg blkCodes (rows_read arg1 harg1 x0 4 (by decide)))) <|
    congrArg₂ List.cons (pc5 rfl (congrArg blkCodes (rows_read arg1 harg1 x0 3 (by decide)))) <|
    congrArg₂ List.cons (pc5 rfl (congrArg blkCodes (rows_read arg1 harg1 x0 2 (by decide)))) <|
    congrArg₂ List.cons (pc5 rfl (congrArg blkCodes (rows_read arg1 harg1 x0 1 (by decide)))) <|
    congrArg₂ List.cons (pc5 rfl (congrArg blkCodes (rows_read arg1 harg1 x0 0 (by decide)))) <|
    rfl

/-- The stores into the scales block. -/
theorem runA_L6 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : k0_cond1 i = 1#1) (hc1 : ¬ k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runA c i arg1 harg1 arg2 harg2 arg3 harg3 arg4 harg4 arg5 harg5 arg6 harg6 arg7 harg7 arg8 harg8 hc0 hc1 x0 x1 x2 s0 s1).2.1 = fill6 x0 4 (Nat.le_refl _) :=
  congrArg₂ List.cons (pc6 rfl (lanes_of rfl (scales_read arg8 (fillSlot i) x0 (HS1A_eq c i arg1 harg1 hc0 x0) 3 (by decide) (off36 i)))) <|
    congrArg₂ List.cons (pc6 rfl (lanes_of rfl (scales_read arg8 (fillSlot i) x0 (HS1A_eq c i arg1 harg1 hc0 x0) 2 (by decide) (off35 i)))) <|
    congrArg₂ List.cons (pc6 rfl (lanes_of rfl (scales_read arg8 (fillSlot i) x0 (HS1A_eq c i arg1 harg1 hc0 x0) 1 (by decide) (off34 i)))) <|
    congrArg₂ List.cons (pc6 rfl (lanes_of rfl (scales_read arg8 (fillSlot i) x0 (HS1A_eq c i arg1 harg1 hc0 x0) 0 (by decide) (off33 i)))) <|
    rfl

/-- The stores of codes into the slot. -/
theorem runA_L7 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : k0_cond1 i = 1#1) (hc1 : ¬ k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runA c i arg1 harg1 arg2 harg2 arg3 harg3 arg4 harg4 arg5 harg5 arg6 harg6 arg7 harg7 arg8 harg8 hc0 hc1 x0 x1 x2 s0 s1).2.2.1 = fill7 (fillSlot i) x0 16 (Nat.le_refl _) :=
  congrArg₂ List.cons (pc7 (off31 i) (congrArg blkCodes3 (rows_read arg1 harg1 x0 15 (by decide)))) <|
    congrArg₂ List.cons (pc7 (off29 i) (congrArg blkCodes3 (rows_read arg1 harg1 x0 14 (by decide)))) <|
    congrArg₂ List.cons (pc7 (off27 i) (congrArg blkCodes3 (rows_read arg1 harg1 x0 13 (by decide)))) <|
    congrArg₂ List.cons (pc7 (off25 i) (congrArg blkCodes3 (rows_read arg1 harg1 x0 12 (by decide)))) <|
    congrArg₂ List.cons (pc7 (off23 i) (congrArg blkCodes3 (rows_read arg1 harg1 x0 11 (by decide)))) <|
    congrArg₂ List.cons (pc7 (off21 i) (congrArg blkCodes3 (rows_read arg1 harg1 x0 10 (by decide)))) <|
    congrArg₂ List.cons (pc7 (off19 i) (congrArg blkCodes3 (rows_read arg1 harg1 x0 9 (by decide)))) <|
    congrArg₂ List.cons (pc7 (off17 i) (congrArg blkCodes3 (rows_read arg1 harg1 x0 8 (by decide)))) <|
    congrArg₂ List.cons (pc7 (off15 i) (congrArg blkCodes3 (rows_read arg1 harg1 x0 7 (by decide)))) <|
    congrArg₂ List.cons (pc7 (off13 i) (congrArg blkCodes3 (rows_read arg1 harg1 x0 6 (by decide)))) <|
    congrArg₂ List.cons (pc7 (off11 i) (congrArg blkCodes3 (rows_read arg1 harg1 x0 5 (by decide)))) <|
    congrArg₂ List.cons (pc7 (off9 i) (congrArg blkCodes3 (rows_read arg1 harg1 x0 4 (by decide)))) <|
    congrArg₂ List.cons (pc7 (off7 i) (congrArg blkCodes3 (rows_read arg1 harg1 x0 3 (by decide)))) <|
    congrArg₂ List.cons (pc7 (off5 i) (congrArg blkCodes3 (rows_read arg1 harg1 x0 2 (by decide)))) <|
    congrArg₂ List.cons (pc7 (off3 i) (congrArg blkCodes3 (rows_read arg1 harg1 x0 1 (by decide)))) <|
    congrArg₂ List.cons (pc7 (off1 i) (congrArg blkCodes3 (rows_read arg1 harg1 x0 0 (by decide)))) <|
    rfl

/-- The stores of scales into the slot. -/
theorem runA_L8 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : k0_cond1 i = 1#1) (hc1 : ¬ k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runA c i arg1 harg1 arg2 harg2 arg3 harg3 arg4 harg4 arg5 harg5 arg6 harg6 arg7 harg7 arg8 harg8 hc0 hc1 x0 x1 x2 s0 s1).2.2.2.1 = fill8 (fillSlot i) x0 16 (Nat.le_refl _) :=
  HS1A_eq c i arg1 harg1 hc0 x0

end Cert.KernelIdeal.Gen

end
-- ==== Proof.RunB.lean ====
module

public import proofs.«01_k».proof.Proof.RunA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point after the first. -/
def runB (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : ¬ k0_cond1 i = 1#1) (hc1 : k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    Σ' (L4 : List (View.Piece (Elt F) S64x8x5120 .bf16)) (L5 : List (View.Piece (Elt F) S512x3456 .fp8e4m3)) (L6 : List (View.Piece (Elt F) S1x1x512 .f32)) (L7 : List (View.Piece (Elt F) S2x512x3456 .fp8e4m3)), { L8 : List (View.Piece (Elt F) S2x512x128 .f32) //
      ∀ (f4 : arg4.view.ty.Contents (Elt F)) (f5 : arg5.view.ty.Contents (Elt F)) (f6 : arg6.view.ty.Contents (Elt F)) (E : Set ℕ) (K : PUnit → sProp 𝕄),
        iprop(owns (c : Thread nD τ) arg1 fullShare x0 ∗ owns (c : Thread nD τ) arg2 fullShare x1 ∗ owns (c : Thread nD τ) arg3 fullShare x2
            ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
            ∗ owns (c : Thread nD τ) arg7 fullShare s0 ∗ owns (c : Thread nD τ) arg8 fullShare s1
            ∗ (iprop(owns (c : Thread nD τ) arg1 fullShare x0 ∗ owns (c : Thread nD τ) arg2 fullShare x1 ∗ owns (c : Thread nD τ) arg3 fullShare x2
            ∗ (arg4.view.loc (c : Thread nD τ) ↦[arg4.view.set]{fullShare} arg4.view.writes (Elt F) f4 L4) ∗ (arg5.view.loc (c : Thread nD τ) ↦[arg5.view.set]{fullShare} arg5.view.writes (Elt F) f5 L5) ∗ (arg6.view.loc (c : Thread nD τ) ↦[arg6.view.set]{fullShare} arg6.view.writes (Elt F) f6 L6)
            ∗ (arg7.view.loc (c : Thread nD τ) ↦[arg7.view.set]{fullShare} arg7.view.writes (Elt F) (harg7.unread s0) L7) ∗ (arg8.view.loc (c : Thread nD τ) ↦[arg8.view.set]{fullShare} arg8.view.writes (Elt F) (harg8.unread s1) L8)) -∗ K ⟨⟩))
          ⊢ wp frame (wpE (defs₀ (F := F)) Variants.none c none) E (cc0_fp8_linear_gelu i arg1 harg1 arg2 harg2 arg3 harg3 arg4 harg4 arg5 harg5 arg6 harg6 arg7 harg7 arg8 harg8) K } := by
  refine ⟨?_, ?_, ?_, ?_, ?_, fun f4 f5 f6 E K => ?run⟩
  case run =>
    simp only [cc0_fp8_linear_gelu_eq_skeleton]; unfold cc0_fp8_linear_gelu_skel
    simp only [k0_part110_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton]
    unfold owns
    iintro ⟨⟨%f0, %hf0, H0⟩, ⟨%f1, %hf1, H1⟩, ⟨%f2, %hf2, H2⟩, H3, H4, H5, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    isplitl [H4]
    · iexact H4
    isplitl [H5]
    · iexact H5
    isplitl [HS0]
    · iexact HS0
    iexact HS1

end Cert.KernelIdeal.Gen

end
-- ==== Proof.BlocksB.lean ====
/- What a step after the first stores for each of its row blocks. -/
module

public import proofs.«01_k».proof.Proof.RunB
public import proofs.«01_k».proof.Proof.Drain

@[expose] public section

set_option maxRecDepth 16384
set_option maxHeartbeats 1000000

noncomputable section

namespace Cert.KernelIdeal.Gen

open Idealize.ShloMosaic Idealize.ShloMosaic.TcCoe

variable {F : FTy → Type} [FloatOps F]

/-- Block 0: the codes as the codes block gets them, as the slot gets them, and the scales. -/
theorem B5_0 (c : Dev nD) (arg1 : Memref sig .tc .vmem S512x3456 .bf16) (harg1 : arg1.IsWhole) (x0 : Vec F S512x3456 .bf16) : k0_pay218 (runB.sl.r c arg1 harg1 x0) (runB.sl.r_1 c arg1 harg1 x0) (runB.sl.r_5 c arg1 harg1 x0) runB.sl.cst_25 = blkCodes (rows x0 0) := (congrArg blkCodes (rows_read arg1 harg1 x0 0 (by decide)))

theorem B7_0 (c : Dev nD) (arg1 : Memref sig .tc .vmem S512x3456 .bf16) (harg1 : arg1.IsWhole) (x0 : Vec F S512x3456 .bf16) : k0_pay219 (runB.sl.r c arg1 harg1 x0) (runB.sl.r_1 c arg1 harg1 x0) (runB.sl.r_5 c arg1 harg1 x0) runB.sl.cst_25 = blkCodes3 (rows x0 0) :=
  (show _ = shapeCast S1x32x3456 (k0_pay218 (runB.sl.r c arg1 harg1 x0) (runB.sl.r_1 c arg1 harg1 x0) (runB.sl.r_5 c arg1 harg1 x0) runB.sl.cst_25) shapeCasts_S32x3456_S1x32x3456 from rfl).trans
    (congrArg (fun z => shapeCast S1x32x3456 z shapeCasts_S32x3456_S1x32x3456) (B5_0 c arg1 harg1 x0))

theorem B8_0 (c : Dev nD) (arg1 : Memref sig .tc .vmem S512x3456 .bf16) (harg1 : arg1.IsWhole) (x0 : Vec F S512x3456 .bf16) : k0_pay221 (runB.sl.r_6 c arg1 harg1 x0) = blkScales3 (rows x0 0) := (congrArg blkScales3 (rows_read arg1 harg1 x0 0 (by decide)))

/-- Block 1: the codes as the codes block gets them, as the slot gets them, and the scales. -/
theorem B5_1 (c : Dev nD) (arg1 : Memref sig .tc .vmem S512x3456 .bf16) (harg1 : arg1.IsWhole) (x0 : Vec F S512x3456 .bf16) : k0_pay231 (runB.sl.r_8 c arg1 harg1 x0) (runB.sl.r_9 c arg1 harg1 x0) (runB.sl.r_13 c arg1 harg1 x0) (runB.sl.r_14 c arg1 harg1 x0) 0#32 = blkCodes (rows x0 1) := (congrArg blkCodes (rows_read arg1 harg1 x0 1 (by decide)))

theorem B7_1 (c : Dev nD) (arg1 : Memref sig .tc .vmem S512x3456 .bf16) (harg1 : arg1.IsWhole) (x0 : Vec F S512x3456 .bf16) : k0_pay232 (runB.sl.r_8 c arg1 harg1 x0) (runB.sl.r_9 c arg1 harg1 x0) (runB.sl.r_13 c arg1 harg1 x0) (runB.sl.r_14 c arg1 harg1 x0) 0#32 = blkCodes3 (rows x0 1) :=
  (show _ = shapeCast S1x32x3456 (k0_pay231 (runB.sl.r_8 c arg1 harg1 x0) (runB.sl.r_9 c arg1 harg1 x0) (runB.sl.r_13 c arg1 harg1 x0) (runB.sl.r_14 c arg1 harg1 x0) 0#32) shapeCasts_S32x3456_S1x32x3456 from rfl).trans
    (congrArg (fun z => shapeCast S1x32x3456 z shapeCasts_S32x3456_S1x32x3456) (B5_1 c arg1 harg1 x0))

theorem B8_1 (c : Dev nD) (arg1 : Memref sig .tc .vmem S512x3456 .bf16) (harg1 : arg1.IsWhole) (x0 : Vec F S512x3456 .bf16) : k0_pay234 (runB.sl.r_15 c arg1 harg1 x0) = blkScales3 (rows x0 1) := (congrArg blkScales3 (rows_read arg1 harg1 x0 1 (by decide)))

/-- Block 2: the codes as the codes block gets them, as the slot gets them, and the scales. -/
theorem B5_2 (c : Dev nD) (arg1 : Memref sig .tc .vmem S512x3456 .bf16) (harg1 : arg1.IsWhole) (x0 : Vec F S512x3456 .bf16) : k0_pay244 (runB.sl.r_16 c arg1 harg1 x0) (runB.sl.r_22 c arg1 harg1 x0) = blkCodes (rows x0 2) := (congrArg blkCodes (rows_read arg1 harg1 x0 2 (by decide)))

theorem B7_2 (c : Dev nD) (arg1 : Memref sig .tc .vmem S512x3456 .bf16) (harg1 : arg1.IsWhole) (x0 : Vec F S512x3456 .bf16) : k0_pay245 (runB.sl.r_16 c arg1 harg1 x0) (runB.sl.r_22 c arg1 harg1 x0) = blkCodes3 (rows x0 2) :=
  (show _ = shapeCast S1x32x3456 (k0_pay244 (runB.sl.r_16 c arg1 harg1 x0) (runB.sl.r_22 c arg1 harg1 x0)) shapeCasts_S32x3456_S1x32x3456 from rfl).trans
    (congrArg (fun z => shapeCast S1x32x3456 z shapeCasts_S32x3456_S1x32x3456) (B5_2 c arg1 harg1 x0))

theorem B8_2 (c : Dev nD) (arg1 : Memref sig .tc .vmem S512x3456 .bf16) (harg1 : arg1.IsWhole) (x0 : Vec F S512x3456 .bf16) : k0_pay246 (runB.sl.r_22 c arg1 harg1 x0) 4294967170#32 126#32 = blkScales3 (rows x0 2) := (congrArg blkScales3 (rows_read arg1 harg1 x0 2 (by decide)))

theorem B3amax (c : Dev nD) (arg1 : Memref sig .tc .vmem S512x3456 .bf16) (harg1 : arg1.IsWhole) (x0 : Vec F S512x3456 .bf16) : runB.sl.r_25 c arg1 harg1 x0 = k0_pay3 (rows x0 3) := by
  rw [← rows_read arg1 harg1 x0 3 (by decide)]
  unfold runB.sl.r_25 runB.sl.r_23 k0_pay249 k0_pay248 k0_pay247 k0_pay3 k0_pay2
  rfl

theorem B3x (c : Dev nD) (arg1 : Memref sig .tc .vmem S512x3456 .bf16) (harg1 : arg1.IsWhole) (x0 : Vec F S512x3456 .bf16) : runB.sl.r_24 c arg1 harg1 x0 = k0_pay2 (rows x0 3) := by
  rw [← rows_read arg1 harg1 x0 3 (by decide)]
  unfold runB.sl.r_24 runB.sl.r_23 k0_pay248 k0_pay247 k0_pay2
  rfl

theorem B3exp (c : Dev nD) (arg1 : Memref sig .tc .vmem S512x3456 .bf16) (harg1 : arg1.IsWhole) (x0 : Vec F S512x3456 .bf16) : runB.sl.r_28 c arg1 harg1 x0 = blkExp (rows x0 3) := by
  rw [← rows_read arg1 harg1 x0 3 (by decide)]
  unfold runB.sl.r_28 runB.sl.r_26 runB.sl.r_27 runB.sl.r_23 k0_pay251 k0_pay250 k0_pay249 k0_pay248 k0_pay247 blkExp k0_pay6 k0_pay5 k0_pay4 k0_pay3 k0_pay2
  rfl

/-- Block 3: the codes as the codes block gets them, as the slot gets them, and the scales. -/
theorem B5_3 (c : Dev nD) (arg1 : Memref sig .tc .vmem S512x3456 .bf16) (harg1 : arg1.IsWhole) (x0 : Vec F S512x3456 .bf16) : k0_pay257 (runB.sl.r_24 c arg1 harg1 x0) (runB.sl.r_28 c arg1 harg1 x0) (runB.sl.r_29 c arg1 harg1 x0) k0_pay255 = blkCodes (rows x0 3) := by
  unfold runB.sl.r_29
  rw [B3exp, B3amax, B3x]
  rfl

theorem B7_3 (c : Dev nD) (arg1 : Memref sig .tc .vmem S512x3456 .bf16) (harg1 : arg1.IsWhole) (x0 : Vec F S512x3456 .bf16) : k0_pay258 (runB.sl.r_24 c arg1 harg1 x0) (runB.sl.r_28 c arg1 harg1 x0) (runB.sl.r_29 c arg1 harg1 x0) k0_pay255 = blkCodes3 (rows x0 3) :=
  (show _ = shapeCast S1x32x3456 (k0_pay257 (runB.sl.r_24 c arg1 harg1 x0) (runB.sl.r_28 c arg1 harg1 x0) (runB.sl.r_29 c arg1 harg1 x0) k0_pay255) shapeCasts_S32x3456_S1x32x3456 from rfl).trans
    (congrArg (fun z => shapeCast S1x32x3456 z shapeCasts_S32x3456_S1x32x3456) (B5_3 c arg1 harg1 x0))

theorem B8_3 (c : Dev nD) (arg1 : Memref sig .tc .vmem S512x3456 .bf16) (harg1 : arg1.IsWhole) (x0 : Vec F S512x3456 .bf16) : k0_pay259 (runB.sl.r_28 c arg1 harg1 x0) (runB.sl.r_29 c arg1 harg1 x0) k0_pay255 = blkScales3 (rows x0 3) := by
  unfold runB.sl.r_29
  rw [B3exp, B3amax]
  rfl

/-- Block 4: the codes as the codes block gets them, as the slot gets them, and the scales. -/
theorem B5_4 (c : Dev nD) (arg1 : Memref sig .tc .vmem S512x3456 .bf16) (harg1 : arg1.IsWhole) (x0 : Vec F S512x3456 .bf16) : k0_pay268 (runB.sl.r_30 c arg1 harg1 x0) (runB.sl.r_34 c arg1 harg1 x0) = blkCodes (rows x0 4) := (congrArg blkCodes (rows_read arg1 harg1 x0 4 (by decide)))

theorem B7_4 (c : Dev nD) (arg1 : Memref sig .tc .vmem S512x3456 .bf16) (harg1 : arg1.IsWhole) (x0 : Vec F S512x3456 .bf16) : k0_pay269 (runB.sl.r_30 c arg1 harg1 x0) (runB.sl.r_34 c arg1 harg1 x0) = blkCodes3 (rows x0 4) :=
  (show _ = shapeCast S1x32x3456 (k0_pay268 (runB.sl.r_30 c arg1 harg1 x0) (runB.sl.r_34 c arg1 harg1 x0)) shapeCasts_S32x3456_S1x32x3456 from rfl).trans
    (congrArg (fun z => shapeCast S1x32x3456 z shapeCasts_S32x3456_S1x32x3456) (B5_4 c arg1 harg1 x0))

theorem B8_4 (c : Dev nD) (arg1 : Memref sig .tc .vmem S512x3456 .bf16) (harg1 : arg1.IsWhole) (x0 : Vec F S512x3456 .bf16) : k0_pay270 (runB.sl.r_35 c arg1 harg1 x0) = blkScales3 (rows x0 4) := (congrArg blkScales3 (rows_read arg1 harg1 x0 4 (by decide)))

/-- Block 5: the codes as the codes block gets them, as the slot gets them, and the scales. -/
theorem B5_5 (c : Dev nD) (arg1 : Memref sig .tc .vmem S512x3456 .bf16) (harg1 : arg1.IsWhole) (x0 : Vec F S512x3456 .bf16) : k0_pay286 (runB.sl.r_37 c arg1 harg1 x0) (runB.sl.r_44 c arg1 harg1 x0) (126#32) k0_pay285 = blkCodes (rows x0 5) := (congrArg blkCodes (rows_read arg1 harg1 x0 5 (by decide)))

theorem B7_5 (c : Dev nD) (arg1 : Memref sig .tc .vmem S512x3456 .bf16) (harg1 : arg1.IsWhole) (x0 : Vec F S512x3456 .bf16) : k0_pay287 (runB.sl.r_37 c arg1 harg1 x0) (runB.sl.r_44 c arg1 harg1 x0) (126#32) k0_pay285 = blkCodes3 (rows x0 5) :=
  (show _ = shapeCast S1x32x3456 (k0_pay286 (runB.sl.r_37 c arg1 harg1 x0) (runB.sl.r_44 c arg1 harg1 x0) (126#32) k0_pay285) shapeCasts_S32x3456_S1x32x3456 from rfl).trans
    (congrArg (fun z => shapeCast S1x32x3456 z shapeCasts_S32x3456_S1x32x3456) (B5_5 c arg1 harg1 x0))

theorem B8_5 (c : Dev nD) (arg1 : Memref sig .tc .vmem S512x3456 .bf16) (harg1 : arg1.IsWhole) (x0 : Vec F S512x3456 .bf16) : k0_pay288 (runB.sl.r_43 c arg1 harg1 x0) = blkScales3 (rows x0 5) := (congrArg blkScales3 (rows_read arg1 harg1 x0 5 (by decide)))

/-- Block 6: the codes as the codes block gets them, as the slot gets them, and the scales. -/
theorem B5_6 (c : Dev nD) (arg1 : Memref sig .tc .vmem S512x3456 .bf16) (harg1 : arg1.IsWhole) (x0 : Vec F S512x3456 .bf16) : k0_pay299 (runB.sl.r_45 c arg1 harg1 x0) (runB.sl.r_51 c arg1 harg1 x0) = blkCodes (rows x0 6) := (congrArg blkCodes (rows_read arg1 harg1 x0 6 (by decide)))

theorem B7_6 (c : Dev nD) (arg1 : Memref sig .tc .vmem S512x3456 .bf16) (harg1 : arg1.IsWhole) (x0 : Vec F S512x3456 .bf16) : k0_pay300 (runB.sl.r_45 c arg1 harg1 x0) (runB.sl.r_51 c arg1 harg1 x0) = blkCodes3 (rows x0 6) :=
  (show _ = shapeCast S1x32x3456 (k0_pay299 (runB.sl.r_45 c arg1 harg1 x0) (runB.sl.r_51 c arg1 harg1 x0)) shapeCasts_S32x3456_S1x32x3456 from rfl).trans
    (congrArg (fun z => shapeCast S1x32x3456 z shapeCasts_S32x3456_S1x32x3456) (B5_6 c arg1 harg1 x0))

theorem B8_6 (c : Dev nD) (arg1 : Memref sig .tc .vmem S512x3456 .bf16) (harg1 : arg1.IsWhole) (x0 : Vec F S512x3456 .bf16) : k0_pay301 (runB.sl.r_50 c arg1 harg1 x0) = blkScales3 (rows x0 6) := (congrArg blkScales3 (rows_read arg1 harg1 x0 6 (by decide)))

/-- Block 7: the codes as the codes block gets them, as the slot gets them, and the scales. -/
theorem B5_7 (c : Dev nD) (arg1 : Memref sig .tc .vmem S512x3456 .bf16) (harg1 : arg1.IsWhole) (x0 : Vec F S512x3456 .bf16) : k0_pay316 (runB.sl.r_53 c arg1 harg1 x0) (runB.sl.r_61 c arg1 harg1 x0) 23#32 = blkCodes (rows x0 7) := (congrArg blkCodes (rows_read arg1 harg1 x0 7 (by decide)))

theorem B7_7 (c : Dev nD) (arg1 : Memref sig .tc .vmem S512x3456 .bf16) (harg1 : arg1.IsWhole) (x0 : Vec F S512x3456 .bf16) : k0_pay317 (runB.sl.r_53 c arg1 harg1 x0) (runB.sl.r_61 c arg1 harg1 x0) 23#32 = blkCodes3 (rows x0 7) :=
  (show _ = shapeCast S1x32x3456 (k0_pay316 (runB.sl.r_53 c arg1 harg1 x0) (runB.sl.r_61 c arg1 harg1 x0) 23#32) shapeCasts_S32x3456_S1x32x3456 from rfl).trans
    (congrArg (fun z => shapeCast S1x32x3456 z shapeCasts_S32x3456_S1x32x3456) (B5_7 c arg1 harg1 x0))

theorem B8_7 (c : Dev nD) (arg1 : Memref sig .tc .vmem S512x3456 .bf16) (harg1 : arg1.IsWhole) (x0 : Vec F S512x3456 .bf16) : k0_pay318 (runB.sl.r_60 c arg1 harg1 x0) = blkScales3 (rows x0 7) := (congrArg blkScales3 (rows_read arg1 harg1 x0 7 (by decide)))

/-- Block 8: the codes as the codes block gets them, as the slot gets them, and the scales. -/
theorem B5_8 (c : Dev nD) (arg1 : Memref sig .tc .vmem S512x3456 .bf16) (harg1 : arg1.IsWhole) (x0 : Vec F S512x3456 .bf16) : k0_pay334 (runB.sl.r_72 c arg1 harg1 x0) k0_pay333 = blkCodes (rows x0 8) := (congrArg blkCodes (rows_read arg1 harg1 x0 8 (by decide)))

theorem B7_8 (c : Dev nD) (arg1 : Memref sig .tc .vmem S512x3456 .bf16) (harg1 : arg1.IsWhole) (x0 : Vec F S512x3456 .bf16) : k0_pay335 (runB.sl.r_72 c arg1 harg1 x0) k0_pay333 = blkCodes3 (rows x0 8) :=
  (show _ = shapeCast S1x32x3456 (k0_pay334 (runB.sl.r_72 c arg1 harg1 x0) k0_pay333) shapeCasts_S32x3456_S1x32x3456 from rfl).trans
    (congrArg (fun z => shapeCast S1x32x3456 z shapeCasts_S32x3456_S1x32x3456) (B5_8 c arg1 harg1 x0))

theorem B8_8 (c : Dev nD) (arg1 : Memref sig .tc .vmem S512x3456 .bf16) (harg1 : arg1.IsWhole) (x0 : Vec F S512x3456 .bf16) : k0_pay336 (runB.sl.r_71 c arg1 harg1 x0) = blkScales3 (rows x0 8) := (congrArg blkScales3 (rows_read arg1 harg1 x0 8 (by decide)))

/-- Block 9: the codes as the codes block gets them, as the slot gets them, and the scales. -/
theorem B5_9 (c : Dev nD) (arg1 : Memref sig .tc .vmem S512x3456 .bf16) (harg1 : arg1.IsWhole) (x0 : Vec F S512x3456 .bf16) : k0_pay345 (runB.sl.r_79 c arg1 harg1 x0) runB.sl.cst_560 runB.sl.cst_561 = blkCodes (rows x0 9) := (congrArg blkCodes (rows_read arg1 harg1 x0 9 (by decide)))

theorem B7_9 (c : Dev nD) (arg1 : Memref sig .tc .vmem S512x3456 .bf16) (harg1 : arg1.IsWhole) (x0 : Vec F S512x3456 .bf16) : k0_pay346 (runB.sl.r_79 c arg1 harg1 x0) runB.sl.cst_560 runB.sl.cst_561 = blkCodes3 (rows x0 9) :=
  (show _ = shapeCast S1x32x3456 (k0_pay345 (runB.sl.r_79 c arg1 harg1 x0) runB.sl.cst_560 runB.sl.cst_561) shapeCasts_S32x3456_S1x32x3456 from rfl).trans
    (congrArg (fun z => shapeCast S1x32x3456 z shapeCasts_S32x3456_S1x32x3456) (B5_9 c arg1 harg1 x0))

theorem B8_9 (c : Dev nD) (arg1 : Memref sig .tc .vmem S512x3456 .bf16) (harg1 : arg1.IsWhole) (x0 : Vec F S512x3456 .bf16) : k0_pay347 (runB.sl.r_78 c arg1 harg1 x0) = blkScales3 (rows x0 9) := (congrArg blkScales3 (rows_read arg1 harg1 x0 9 (by decide)))

/-- Block 10: the codes as the codes block gets them, as the slot gets them, and the scales. -/
theorem B5_10 (c : Dev nD) (arg1 : Memref sig .tc .vmem S512x3456 .bf16) (harg1 : arg1.IsWhole) (x0 : Vec F S512x3456 .bf16) : k0_pay363 (runB.sl.r_82 c arg1 harg1 x0) (runB.sl.r_83 c arg1 harg1 x0) (runB.sl.r_87 c arg1 harg1 x0) (runB.sl.r_88 c arg1 harg1 x0) k0_pay360 = blkCodes (rows x0 10) := (congrArg blkCodes (rows_read arg1 harg1 x0 10 (by decide)))

theorem B7_10 (c : Dev nD) (arg1 : Memref sig .tc .vmem S512x3456 .bf16) (harg1 : arg1.IsWhole) (x0 : Vec F S512x3456 .bf16) : k0_pay364 (runB.sl.r_90 c arg1 harg1 x0) = blkCodes3 (rows x0 10) :=
  (show _ = shapeCast S1x32x3456 (k0_pay363 (runB.sl.r_82 c arg1 harg1 x0) (runB.sl.r_83 c arg1 harg1 x0) (runB.sl.r_87 c arg1 harg1 x0) (runB.sl.r_88 c arg1 harg1 x0) k0_pay360) shapeCasts_S32x3456_S1x32x3456 from rfl).trans
    (congrArg (fun z => shapeCast S1x32x3456 z shapeCasts_S32x3456_S1x32x3456) (B5_10 c arg1 harg1 x0))

theorem B8_10 (c : Dev nD) (arg1 : Memref sig .tc .vmem S512x3456 .bf16) (harg1 : arg1.IsWhole) (x0 : Vec F S512x3456 .bf16) : k0_pay365 (runB.sl.r_89 c arg1 harg1 x0) = blkScales3 (rows x0 10) := (congrArg blkScales3 (rows_read arg1 harg1 x0 10 (by decide)))

/-- Block 11: the codes as the codes block gets them, as the slot gets them, and the scales. -/
theorem B5_11 (c : Dev nD) (arg1 : Memref sig .tc .vmem S512x3456 .bf16) (harg1 : arg1.IsWhole) (x0 : Vec F S512x3456 .bf16) : runB.sl.r_99 c arg1 harg1 x0 = blkCodes (rows x0 11) := (congrArg blkCodes (rows_read arg1 harg1 x0 11 (by decide)))

theorem B7_11 (c : Dev nD) (arg1 : Memref sig .tc .vmem S512x3456 .bf16) (harg1 : arg1.IsWhole) (x0 : Vec F S512x3456 .bf16) : k0_pay376 (runB.sl.r_99 c arg1 harg1 x0) = blkCodes3 (rows x0 11) :=
  (show _ = shapeCast S1x32x3456 (runB.sl.r_99 c arg1 harg1 x0) shapeCasts_S32x3456_S1x32x3456 from rfl).trans
    (congrArg (fun z => shapeCast S1x32x3456 z shapeCasts_S32x3456_S1x32x3456) (B5_11 c arg1 harg1 x0))

theorem B8_11 (c : Dev nD) (arg1 : Memref sig .tc .vmem S512x3456 .bf16) (harg1 : arg1.IsWhole) (x0 : Vec F S512x3456 .bf16) : k0_pay377 (runB.sl.r_98 c arg1 harg1 x0) = blkScales3 (rows x0 11) := (congrArg blkScales3 (rows_read arg1 harg1 x0 11 (by decide)))

/-- Block 12: the codes as the codes block gets them, as the slot gets them, and the scales. -/
theorem B5_12 (c : Dev nD) (arg1 : Memref sig .tc .vmem S512x3456 .bf16) (harg1 : arg1.IsWhole) (x0 : Vec F S512x3456 .bf16) : k0_pay389 (runB.sl.r_101 c arg1 harg1 x0) (runB.sl.r_102 c arg1 harg1 x0) (runB.sl.r_106 c arg1 harg1 x0) (runB.sl.r_107 c arg1 harg1 x0) k0_pay387 = blkCodes (rows x0 12) := (congrArg blkCodes (rows_read arg1 harg1 x0 12 (by decide)))

theorem B7_12 (c : Dev nD) (arg1 : Memref sig .tc .vmem S512x3456 .bf16) (harg1 : arg1.IsWhole) (x0 : Vec F S512x3456 .bf16) : k0_pay390 (runB.sl.r_101 c arg1 harg1 x0) (runB.sl.r_102 c arg1 harg1 x0) (runB.sl.r_106 c arg1 harg1 x0) (runB.sl.r_107 c arg1 harg1 x0) k0_pay387 = blkCodes3 (rows x0 12) :=
  (show _ = shapeCast S1x32x3456 (k0_pay389 (runB.sl.r_101 c arg1 harg1 x0) (runB.sl.r_102 c arg1 harg1 x0) (runB.sl.r_106 c arg1 harg1 x0) (runB.sl.r_107 c arg1 harg1 x0) k0_pay387) shapeCasts_S32x3456_S1x32x3456 from rfl).trans
    (congrArg (fun z => shapeCast S1x32x3456 z shapeCasts_S32x3456_S1x32x3456) (B5_12 c arg1 harg1 x0))

theorem B8_12 (c : Dev nD) (arg1 : Memref sig .tc .vmem S512x3456 .bf16) (harg1 : arg1.IsWhole) (x0 : Vec F S512x3456 .bf16) : k0_pay392 (runB.sl.r_108 c arg1 harg1 x0) = blkScales3 (rows x0 12) := (congrArg blkScales3 (rows_read arg1 harg1 x0 12 (by decide)))

/-- Block 13: the codes as the codes block gets them, as the slot gets them, and the scales. -/
theorem B5_13 (c : Dev nD) (arg1 : Memref sig .tc .vmem S512x3456 .bf16) (harg1 : arg1.IsWhole) (x0 : Vec F S512x3456 .bf16) : k0_pay400 (runB.sl.r_109 c arg1 harg1 x0) (runB.sl.r_114 c arg1 harg1 x0) = blkCodes (rows x0 13) := (congrArg blkCodes (rows_read arg1 harg1 x0 13 (by decide)))

theorem B7_13 (c : Dev nD) (arg1 : Memref sig .tc .vmem S512x3456 .bf16) (harg1 : arg1.IsWhole) (x0 : Vec F S512x3456 .bf16) : k0_pay401 (runB.sl.r_109 c arg1 harg1 x0) (runB.sl.r_114 c arg1 harg1 x0) = blkCodes3 (rows x0 13) :=
  (show _ = shapeCast S1x32x3456 (k0_pay400 (runB.sl.r_109 c arg1 harg1 x0) (runB.sl.r_114 c arg1 harg1 x0)) shapeCasts_S32x3456_S1x32x3456 from rfl).trans
    (congrArg (fun z => shapeCast S1x32x3456 z shapeCasts_S32x3456_S1x32x3456) (B5_13 c arg1 harg1 x0))

theorem B8_13 (c : Dev nD) (arg1 : Memref sig .tc .vmem S512x3456 .bf16) (harg1 : arg1.IsWhole) (x0 : Vec F S512x3456 .bf16) : k0_pay402 (runB.sl.r_114 c arg1 harg1 x0) = blkScales3 (rows x0 13) := (congrArg blkScales3 (rows_read arg1 harg1 x0 13 (by decide)))

/-- Block 14: the codes as the codes block gets them, as the slot gets them, and the scales. -/
theorem B5_14 (c : Dev nD) (arg1 : Memref sig .tc .vmem S512x3456 .bf16) (harg1 : arg1.IsWhole) (x0 : Vec F S512x3456 .bf16) : k0_pay410 (runB.sl.r_115 c arg1 harg1 x0) (runB.sl.r_119 c arg1 harg1 x0) (runB.sl.r_120 c arg1 harg1 x0) = blkCodes (rows x0 14) := (congrArg blkCodes (rows_read arg1 harg1 x0 14 (by decide)))

theorem B7_14 (c : Dev nD) (arg1 : Memref sig .tc .vmem S512x3456 .bf16) (harg1 : arg1.IsWhole) (x0 : Vec F S512x3456 .bf16) : k0_pay411 (runB.sl.r_115 c arg1 harg1 x0) (runB.sl.r_119 c arg1 harg1 x0) (runB.sl.r_120 c arg1 harg1 x0) = blkCodes3 (rows x0 14) :=
  (show _ = shapeCast S1x32x3456 (k0_pay410 (runB.sl.r_115 c arg1 harg1 x0) (runB.sl.r_119 c arg1 harg1 x0) (runB.sl.r_120 c arg1 harg1 x0)) shapeCasts_S32x3456_S1x32x3456 from rfl).trans
    (congrArg (fun z => shapeCast S1x32x3456 z shapeCasts_S32x3456_S1x32x3456) (B5_14 c arg1 harg1 x0))

theorem B8_14 (c : Dev nD) (arg1 : Memref sig .tc .vmem S512x3456 .bf16) (harg1 : arg1.IsWhole) (x0 : Vec F S512x3456 .bf16) : runB.sl.r_121 c arg1 harg1 x0 = blkScales3 (rows x0 14) := (congrArg blkScales3 (rows_read arg1 harg1 x0 14 (by decide)))

/-- Block 15: the codes as the codes block gets them, as the slot gets them, and the scales. -/
theorem B5_15 (c : Dev nD) (arg1 : Memref sig .tc .vmem S512x3456 .bf16) (harg1 : arg1.IsWhole) (x0 : Vec F S512x3456 .bf16) : k0_pay422 (runB.sl.r_122 c arg1 harg1 x0) (runB.sl.r_127 c arg1 harg1 x0) = blkCodes (rows x0 15) := (congrArg blkCodes (rows_read arg1 harg1 x0 15 (by decide)))

theorem B7_15 (c : Dev nD) (arg1 : Memref sig .tc .vmem S512x3456 .bf16) (harg1 : arg1.IsWhole) (x0 : Vec F S512x3456 .bf16) : k0_pay423 (runB.sl.r_122 c arg1 harg1 x0) (runB.sl.r_127 c arg1 harg1 x0) = blkCodes3 (rows x0 15) :=
  (show _ = shapeCast S1x32x3456 (k0_pay422 (runB.sl.r_122 c arg1 harg1 x0) (runB.sl.r_127 c arg1 harg1 x0)) shapeCasts_S32x3456_S1x32x3456 from rfl).trans
    (congrArg (fun z => shapeCast S1x32x3456 z shapeCasts_S32x3456_S1x32x3456) (B5_15 c arg1 harg1 x0))

theorem B8_15 (c : Dev nD) (arg1 : Memref sig .tc .vmem S512x3456 .bf16) (harg1 : arg1.IsWhole) (x0 : Vec F S512x3456 .bf16) : k0_pay424 (runB.sl.r_128 c arg1 harg1 x0) 127#32 = blkScales3 (rows x0 15) := (congrArg blkScales3 (rows_read arg1 harg1 x0 15 (by decide)))

end Cert.KernelIdeal.Gen

end
-- ==== Proof.PiecesB.lean ====
/- The stores of a step after the first: its tile's codes and scales, and the previous tile's result. -/
module

public import proofs.«01_k».proof.Proof.BlocksB
public import proofs.«01_k».proof.Proof.Drain

@[expose] public section

set_option maxRecDepth 16384
set_option maxHeartbeats 1000000

noncomputable section

namespace Cert.KernelIdeal.Gen

open Idealize.ShloMosaic Idealize.ShloMosaic.TcCoe

variable {F : FTy → Type} [FloatOps F]

/-- The first 2 stores of codes into the slot. -/
theorem HS0_2_eq (c : Dev nD) (i : grid0.Coords) (arg1 : Memref sig .tc .vmem S512x3456 .bf16) (harg1 : arg1.IsWhole) (hc1 : k0_cond2 i = 1#1) (x0 : Vec F S512x3456 .bf16) :
    runB.sl.HS0_2 c i arg1 harg1 hc1 x0 = fill7 (fillSlot i) x0 2 (by decide) :=
  congrArg₂ List.cons (pc7 (off39 i) (B7_1 c arg1 harg1 x0)) <|
    congrArg₂ List.cons (pc7 (off37 i) (B7_0 c arg1 harg1 x0)) <|
    rfl

/-- The first 4 stores of codes into the slot. -/
theorem HS0_4_eq (c : Dev nD) (i : grid0.Coords) (arg1 : Memref sig .tc .vmem S512x3456 .bf16) (harg1 : arg1.IsWhole) (hc1 : k0_cond2 i = 1#1) (x0 : Vec F S512x3456 .bf16) :
    runB.sl.HS0_4 c i arg1 harg1 hc1 x0 = fill7 (fillSlot i) x0 4 (by decide) :=
  congrArg₂ List.cons (pc7 (off45 i) (B7_3 c arg1 harg1 x0)) <|
    congrArg₂ List.cons (pc7 (off43 i) (B7_2 c arg1 harg1 x0)) <|
    HS0_2_eq c i arg1 harg1 hc1 x0

/-- The first 5 stores of codes into the slot. -/
theorem HS0_5_eq (c : Dev nD) (i : grid0.Coords) (arg1 : Memref sig .tc .vmem S512x3456 .bf16) (harg1 : arg1.IsWhole) (hc1 : k0_cond2 i = 1#1) (x0 : Vec F S512x3456 .bf16) :
    runB.sl.HS0_5 c i arg1 harg1 hc1 x0 = fill7 (fillSlot i) x0 5 (by decide) :=
  congrArg₂ List.cons (pc7 (off47 i) (B7_4 c arg1 harg1 x0)) <|
    HS0_4_eq c i arg1 harg1 hc1 x0

/-- The first 7 stores of codes into the slot. -/
theorem HS0_7_eq (c : Dev nD) (i : grid0.Coords) (arg1 : Memref sig .tc .vmem S512x3456 .bf16) (harg1 : arg1.IsWhole) (hc1 : k0_cond2 i = 1#1) (x0 : Vec F S512x3456 .bf16) :
    runB.sl.HS0_7 c i arg1 harg1 hc1 x0 = fill7 (fillSlot i) x0 7 (by decide) :=
  congrArg₂ List.cons (pc7 (off51 i) (B7_6 c arg1 harg1 x0)) <|
    congrArg₂ List.cons (pc7 (off49 i) (B7_5 c arg1 harg1 x0)) <|
    HS0_5_eq c i arg1 harg1 hc1 x0

/-- The first 8 stores of codes into the slot. -/
theorem HS0_8_eq (c : Dev nD) (i : grid0.Coords) (arg1 : Memref sig .tc .vmem S512x3456 .bf16) (harg1 : arg1.IsWhole) (hc1 : k0_cond2 i = 1#1) (x0 : Vec F S512x3456 .bf16) :
    runB.sl.HS0_8 c i arg1 harg1 hc1 x0 = fill7 (fillSlot i) x0 8 (by decide) :=
  congrArg₂ List.cons (pc7 (off53 i) (B7_7 c arg1 harg1 x0)) <|
    HS0_7_eq c i arg1 harg1 hc1 x0

/-- The first 10 stores of codes into the slot. -/
theorem HS0_10_eq (c : Dev nD) (i : grid0.Coords) (arg1 : Memref sig .tc .vmem S512x3456 .bf16) (harg1 : arg1.IsWhole) (hc1 : k0_cond2 i = 1#1) (x0 : Vec F S512x3456 .bf16) :
    runB.sl.HS0_10 c i arg1 harg1 hc1 x0 = fill7 (fillSlot i) x0 10 (by decide) :=
  congrArg₂ List.cons (pc7 (off57 i) (B7_9 c arg1 harg1 x0)) <|
    congrArg₂ List.cons (pc7 (off55 i) (B7_8 c arg1 harg1 x0)) <|
    HS0_8_eq c i arg1 harg1 hc1 x0

/-- The first 12 stores of codes into the slot. -/
theorem HS0_12_eq (c : Dev nD) (i : grid0.Coords) (arg1 : Memref sig .tc .vmem S512x3456 .bf16) (harg1 : arg1.IsWhole) (hc1 : k0_cond2 i = 1#1) (x0 : Vec F S512x3456 .bf16) :
    runB.sl.HS0_12 c i arg1 harg1 hc1 x0 = fill7 (fillSlot i) x0 12 (by decide) :=
  congrArg₂ List.cons (pc7 (off61 i) (B7_11 c arg1 harg1 x0)) <|
    congrArg₂ List.cons (pc7 (off59 i) (B7_10 c arg1 harg1 x0)) <|
    HS0_10_eq c i arg1 harg1 hc1 x0

/-- The first 13 stores of codes into the slot. -/
theorem HS0_13_eq (c : Dev nD) (i : grid0.Coords) (arg1 : Memref sig .tc .vmem S512x3456 .bf16) (harg1 : arg1.IsWhole) (hc1 : k0_cond2 i = 1#1) (x0 : Vec F S512x3456 .bf16) :
    runB.sl.HS0_13 c i arg1 harg1 hc1 x0 = fill7 (fillSlot i) x0 13 (by decide) :=
  congrArg₂ List.cons (pc7 (off63 i) (B7_12 c arg1 harg1 x0)) <|
    HS0_12_eq c i arg1 harg1 hc1 x0

/-- The first 15 stores of codes into the slot. -/
theorem HS0_15_eq (c : Dev nD) (i : grid0.Coords) (arg1 : Memref sig .tc .vmem S512x3456 .bf16) (harg1 : arg1.IsWhole) (hc1 : k0_cond2 i = 1#1) (x0 : Vec F S512x3456 .bf16) :
    runB.sl.HS0_15 c i arg1 harg1 hc1 x0 = fill7 (fillSlot i) x0 15 (by decide) :=
  congrArg₂ List.cons (pc7 (off67 i) (B7_14 c arg1 harg1 x0)) <|
    congrArg₂ List.cons (pc7 (off65 i) (B7_13 c arg1 harg1 x0)) <|
    HS0_13_eq c i arg1 harg1 hc1 x0

/-- The first 16 stores of codes into the slot. -/
theorem HS0_16_eq (c : Dev nD) (i : grid0.Coords) (arg1 : Memref sig .tc .vmem S512x3456 .bf16) (harg1 : arg1.IsWhole) (hc1 : k0_cond2 i = 1#1) (x0 : Vec F S512x3456 .bf16) :
    runB.sl.HS0_16 c i arg1 harg1 hc1 x0 = fill7 (fillSlot i) x0 16 (by decide) :=
  congrArg₂ List.cons (pc7 (off69 i) (B7_15 c arg1 harg1 x0)) <|
    HS0_15_eq c i arg1 harg1 hc1 x0

/-- The first 2 stores of scales into the slot. -/
theorem HS1_2_eq (c : Dev nD) (i : grid0.Coords) (arg1 : Memref sig .tc .vmem S512x3456 .bf16) (harg1 : arg1.IsWhole) (hc1 : k0_cond2 i = 1#1) (x0 : Vec F S512x3456 .bf16) :
    runB.sl.HS1_2 c i arg1 harg1 hc1 x0 = fill8 (fillSlot i) x0 2 (by decide) :=
  congrArg₂ List.cons (pc8 (off40 i) (B8_1 c arg1 harg1 x0)) <|
    congrArg₂ List.cons (pc8 (off38 i) (B8_0 c arg1 harg1 x0)) <|
    rfl

/-- The first 4 stores of scales into the slot. -/
theorem HS1_4_eq (c : Dev nD) (i : grid0.Coords) (arg1 : Memref sig .tc .vmem S512x3456 .bf16) (harg1 : arg1.IsWhole) (hc1 : k0_cond2 i = 1#1) (x0 : Vec F S512x3456 .bf16) :
    runB.sl.HS1_4 c i arg1 harg1 hc1 x0 = fill8 (fillSlot i) x0 4 (by decide) :=
  congrArg₂ List.cons (pc8 (off46 i) (B8_3 c arg1 harg1 x0)) <|
    congrArg₂ List.cons (pc8 (off44 i) (B8_2 c arg1 harg1 x0)) <|
    HS1_2_eq c i arg1 harg1 hc1 x0

/-- The first 5 stores of scales into the slot. -/
theorem HS1_5_eq (c : Dev nD) (i : grid0.Coords) (arg1 : Memref sig .tc .vmem S512x3456 .bf16) (harg1 : arg1.IsWhole) (hc1 : k0_cond2 i = 1#1) (x0 : Vec F S512x3456 .bf16) :
    runB.sl.HS1_5 c i arg1 harg1 hc1 x0 = fill8 (fillSlot i) x0 5 (by decide) :=
  congrArg₂ List.cons (pc8 (off48 i) (B8_4 c arg1 harg1 x0)) <|
    HS1_4_eq c i arg1 harg1 hc1 x0

/-- The first 7 stores of scales into the slot. -/
theorem HS1_7_eq (c : Dev nD) (i : grid0.Coords) (arg1 : Memref sig .tc .vmem S512x3456 .bf16) (harg1 : arg1.IsWhole) (hc1 : k0_cond2 i = 1#1) (x0 : Vec F S512x3456 .bf16) :
    runB.sl.HS1_7 c i arg1 harg1 hc1 x0 = fill8 (fillSlot i) x0 7 (by decide) :=
  congrArg₂ List.cons (pc8 (off52 i) (B8_6 c arg1 harg1 x0)) <|
    congrArg₂ List.cons (pc8 (off50 i) (B8_5 c arg1 harg1 x0)) <|
    HS1_5_eq c i arg1 harg1 hc1 x0

/-- The first 8 stores of scales into the slot. -/
theorem HS1_8_eq (c : Dev nD) (i : grid0.Coords) (arg1 : Memref sig .tc .vmem S512x3456 .bf16) (harg1 : arg1.IsWhole) (hc1 : k0_cond2 i = 1#1) (x0 : Vec F S512x3456 .bf16) :
    runB.sl.HS1_8 c i arg1 harg1 hc1 x0 = fill8 (fillSlot i) x0 8 (by decide) :=
  congrArg₂ List.cons (pc8 (off54 i) (B8_7 c arg1 harg1 x0)) <|
    HS1_7_eq c i arg1 harg1 hc1 x0

/-- The first 10 stores of scales into the slot. -/
theorem HS1_10_eq (c : Dev nD) (i : grid0.Coords) (arg1 : Memref sig .tc .vmem S512x3456 .bf16) (harg1 : arg1.IsWhole) (hc1 : k0_cond2 i = 1#1) (x0 : Vec F S512x3456 .bf16) :
    runB.sl.HS1_10 c i arg1 harg1 hc1 x0 = fill8 (fillSlot i) x0 10 (by decide) :=
  congrArg₂ List.cons (pc8 (off58 i) (B8_9 c arg1 harg1 x0)) <|
    congrArg₂ List.cons (pc8 (off56 i) (B8_8 c arg1 harg1 x0)) <|
    HS1_8_eq c i arg1 harg1 hc1 x0

/-- The first 12 stores of scales into the slot. -/
theorem HS1_12_eq (c : Dev nD) (i : grid0.Coords) (arg1 : Memref sig .tc .vmem S512x3456 .bf16) (harg1 : arg1.IsWhole) (hc1 : k0_cond2 i = 1#1) (x0 : Vec F S512x3456 .bf16) :
    runB.sl.HS1_12 c i arg1 harg1 hc1 x0 = fill8 (fillSlot i) x0 12 (by decide) :=
  congrArg₂ List.cons (pc8 (off62 i) (B8_11 c arg1 harg1 x0)) <|
    congrArg₂ List.cons (pc8 (off60 i) (B8_10 c arg1 harg1 x0)) <|
    HS1_10_eq c i arg1 harg1 hc1 x0

/-- The first 13 stores of scales into the slot. -/
theorem HS1_13_eq (c : Dev nD) (i : grid0.Coords) (arg1 : Memref sig .tc .vmem S512x3456 .bf16) (harg1 : arg1.IsWhole) (hc1 : k0_cond2 i = 1#1) (x0 : Vec F S512x3456 .bf16) :
    runB.sl.HS1_13 c i arg1 harg1 hc1 x0 = fill8 (fillSlot i) x0 13 (by decide) :=
  congrArg₂ List.cons (pc8 (off64 i) (B8_12 c arg1 harg1 x0)) <|
    HS1_12_eq c i arg1 harg1 hc1 x0

/-- The first 15 stores of scales into the slot. -/
theorem HS1_15_eq (c : Dev nD) (i : grid0.Coords) (arg1 : Memref sig .tc .vmem S512x3456 .bf16) (harg1 : arg1.IsWhole) (hc1 : k0_cond2 i = 1#1) (x0 : Vec F S512x3456 .bf16) :
    runB.sl.HS1_15 c i arg1 harg1 hc1 x0 = fill8 (fillSlot i) x0 15 (by decide) :=
  congrArg₂ List.cons (pc8 (off68 i) (B8_14 c arg1 harg1 x0)) <|
    congrArg₂ List.cons (pc8 (off66 i) (B8_13 c arg1 harg1 x0)) <|
    HS1_13_eq c i arg1 harg1 hc1 x0

/-- The first 16 stores of scales into the slot. -/
theorem HS1_16_eq (c : Dev nD) (i : grid0.Coords) (arg1 : Memref sig .tc .vmem S512x3456 .bf16) (harg1 : arg1.IsWhole) (hc1 : k0_cond2 i = 1#1) (x0 : Vec F S512x3456 .bf16) :
    runB.sl.HS1_16 c i arg1 harg1 hc1 x0 = fill8 (fillSlot i) x0 16 (by decide) :=
  congrArg₂ List.cons (pc8 (off70 i) (B8_15 c arg1 harg1 x0)) <|
    HS1_15_eq c i arg1 harg1 hc1 x0

/-- The stores into the codes block. -/
theorem runB_L5 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : ¬ k0_cond1 i = 1#1) (hc1 : k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runB c i arg1 harg1 arg2 harg2 arg3 harg3 arg4 harg4 arg5 harg5 arg6 harg6 arg7 harg7 arg8 harg8 hc0 hc1 x0 x1 x2 s0 s1).2.1 = fill5 x0 16 (Nat.le_refl _) :=
  congrArg₂ List.cons (pc5 rfl (B5_15 c arg1 harg1 x0)) <|
    congrArg₂ List.cons (pc5 rfl (B5_14 c arg1 harg1 x0)) <|
    congrArg₂ List.cons (pc5 rfl (B5_13 c arg1 harg1 x0)) <|
    congrArg₂ List.cons (pc5 rfl (B5_12 c arg1 harg1 x0)) <|
    congrArg₂ List.cons (pc5 rfl (B5_11 c arg1 harg1 x0)) <|
    congrArg₂ List.cons (pc5 rfl (B5_10 c arg1 harg1 x0)) <|
    congrArg₂ List.cons (pc5 rfl (B5_9 c arg1 harg1 x0)) <|
    congrArg₂ List.cons (pc5 rfl (B5_8 c arg1 harg1 x0)) <|
    congrArg₂ List.cons (pc5 rfl (B5_7 c arg1 harg1 x0)) <|
    congrArg₂ List.cons (pc5 rfl (B5_6 c arg1 harg1 x0)) <|
    congrArg₂ List.cons (pc5 rfl (B5_5 c arg1 harg1 x0)) <|
    congrArg₂ List.cons (pc5 rfl (B5_4 c arg1 harg1 x0)) <|
    congrArg₂ List.cons (pc5 rfl (B5_3 c arg1 harg1 x0)) <|
    congrArg₂ List.cons (pc5 rfl (B5_2 c arg1 harg1 x0)) <|
    congrArg₂ List.cons (pc5 rfl (B5_1 c arg1 harg1 x0)) <|
    congrArg₂ List.cons (pc5 rfl (B5_0 c arg1 harg1 x0)) <|
    rfl

/-- The stores into the scales block. -/
theorem runB_L6 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : ¬ k0_cond1 i = 1#1) (hc1 : k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runB c i arg1 harg1 arg2 harg2 arg3 harg3 arg4 harg4 arg5 harg5 arg6 harg6 arg7 harg7 arg8 harg8 hc0 hc1 x0 x1 x2 s0 s1).2.2.1 = fill6 x0 4 (Nat.le_refl _) :=
  congrArg₂ List.cons (pc6 rfl (lanes_of rfl (scales_read arg8 (fillSlot i) x0 (HS1_16_eq c i arg1 harg1 hc1 x0) 3 (by decide) (off74 i)))) <|
    congrArg₂ List.cons (pc6 rfl (lanes_of rfl (scales_read arg8 (fillSlot i) x0 (HS1_16_eq c i arg1 harg1 hc1 x0) 2 (by decide) (off73 i)))) <|
    congrArg₂ List.cons (pc6 rfl (lanes_of rfl (scales_read arg8 (fillSlot i) x0 (HS1_16_eq c i arg1 harg1 hc1 x0) 1 (by decide) (off72 i)))) <|
    congrArg₂ List.cons (pc6 rfl (lanes_of rfl (scales_read arg8 (fillSlot i) x0 (HS1_16_eq c i arg1 harg1 hc1 x0) 0 (by decide) (off71 i)))) <|
    rfl

/-- The stores of codes into the slot. -/
theorem runB_L7 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : ¬ k0_cond1 i = 1#1) (hc1 : k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runB c i arg1 harg1 arg2 harg2 arg3 harg3 arg4 harg4 arg5 harg5 arg6 harg6 arg7 harg7 arg8 harg8 hc0 hc1 x0 x1 x2 s0 s1).2.2.2.1 = fill7 (fillSlot i) x0 16 (Nat.le_refl _) :=
  HS0_16_eq c i arg1 harg1 hc1 x0

/-- The stores of scales into the slot. -/
theorem runB_L8 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : ¬ k0_cond1 i = 1#1) (hc1 : k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runB c i arg1 harg1 arg2 harg2 arg3 harg3 arg4 harg4 arg5 harg5 arg6 harg6 arg7 harg7 arg8 harg8 hc0 hc1 x0 x1 x2 s0 s1).2.2.2.2.1 = fill8 (fillSlot i) x0 16 (Nat.le_refl _) :=
  HS1_16_eq c i arg1 harg1 hc1 x0

/-- The stores into the result block. -/
theorem runB_L4 (c : Dev nD) (i : grid0.Coords) (arg1 : Memref sig .tc .vmem S512x3456 .bf16) (harg1 : arg1.IsWhole) (arg2 : Memref sig .tc .vmem S3456x5120 .fp8e4m3) (harg2 : arg2.IsWhole) (arg3 : Memref sig .tc .vmem S1x5120 .f32) (harg3 : arg3.IsWhole) (arg4 : Memref sig .tc .vmem S64x8x5120 .bf16) (harg4 : arg4.IsWhole) (arg5 : Memref sig .tc .vmem S512x3456 .fp8e4m3) (harg5 : arg5.IsWhole) (arg6 : Memref sig .tc .vmem S1x1x512 .f32) (harg6 : arg6.IsWhole) (arg7 : Memref sig .tc .vmem S2x512x3456 .fp8e4m3) (harg7 : arg7.IsWhole) (arg8 : Memref sig .tc .vmem S2x512x128 .f32) (harg8 : arg8.IsWhole)
    (hc0 : ¬ k0_cond1 i = 1#1) (hc1 : k0_cond2 i = 1#1)
    (x0 : Vec F S512x3456 .bf16) (x1 : Vec F S3456x5120 .fp8e4m3) (x2 : Vec F S1x5120 .f32) (s0 : Vec F S2x512x3456 .fp8e4m3) (s1 : Vec F S2x512x128 .f32) :
    (runB c i arg1 harg1 arg2 harg2 arg3 harg3 arg4 harg4 arg5 harg5 arg6 harg6 arg7 harg7 arg8 harg8 hc0 hc1 x0 x1 x2 s0 s1).1 = fill4 (slot7 (drainSlot i) s0) x1 (slot8 (drainSlot i) s1) x2 10 (Nat.le_refl _) :=
  congrArg₂ List.cons (pc4 rfl (chunk_of rfl (drain7 i arg7 harg7 s0 x0 (HS0_16_eq c i arg1 harg1 hc1 x0) (off41 i)) (wcols_read arg2 harg2 x1 9 (by decide)) (drain8 i arg8 harg8 s1 x0 (HS1_16_eq c i arg1 harg1 hc1 x0) (off42 i)) (wscols_read arg3 harg3 x2 9 (by decide)))) <|
    congrArg₂ List.cons (pc4 rfl (chunk_of rfl (drain7 i arg7 harg7 s0 x0 (HS0_15_eq c i arg1 harg1 hc1 x0) (off41 i)) (wcols_read arg2 harg2 x1 8 (by decide)) (drain8 i arg8 harg8 s1 x0 (HS1_15_eq c i arg1 harg1 hc1 x0) (off42 i)) (wscols_read arg3 harg3 x2 8 (by decide)))) <|
    congrArg₂ List.cons (pc4 rfl (chunk_of rfl (drain7 i arg7 harg7 s0 x0 (HS0_13_eq c i arg1 harg1 hc1 x0) (off41 i)) (wcols_read arg2 harg2 x1 7 (by decide)) (drain8 i arg8 harg8 s1 x0 (HS1_13_eq c i arg1 harg1 hc1 x0) (off42 i)) (wscols_read arg3 harg3 x2 7 (by decide)))) <|
    congrArg₂ List.cons (pc4 rfl (chunk_of rfl (drain7 i arg7 harg7 s0 x0 (HS0_12_eq c i arg1 harg1 hc1 x0) (off41 i)) (wcols_read arg2 harg2 x1 6 (by decide)) (drain8 i arg8 harg8 s1 x0 (HS1_12_eq c i arg1 harg1 hc1 x0) (off42 i)) (wscols_read arg3 harg3 x2 6 (by decide)))) <|
    congrArg₂ List.cons (pc4 rfl (chunk_of rfl (drain7 i arg7 harg7 s0 x0 (HS0_10_eq c i arg1 harg1 hc1 x0) (off41 i)) (wcols_read arg2 harg2 x1 5 (by decide)) (drain8 i arg8 harg8 s1 x0 (HS1_10_eq c i arg1 harg1 hc1 x0) (off42 i)) (wscols_read arg3 harg3 x2 5 (by decide)))) <|
    congrArg₂ List.cons (pc4 rfl (chunk_of rfl (drain7 i arg7 harg7 s0 x0 (HS0_8_eq c i arg1 harg1 hc1 x0) (off41 i)) (wcols_read arg2 harg2 x1 4 (by decide)) (drain8 i arg8 harg8 s1 x0 (HS1_8_eq c i arg1 harg1 hc1 x0) (off42 i)) (wscols_read arg3 harg3 x2 4 (by decide)))) <|
    congrArg₂ List.cons (pc4 rfl (chunk_of rfl (drain7 i arg7 harg7 s0 x0 (HS0_7_eq c i arg1 harg1 hc1 x0) (off41 i)) (wcols_read arg2 harg2 x1 3 (by decide)) (drain8 i arg8 harg8 s1 x0 (HS1_7_eq c i arg1 harg1 hc1 x0) (off42 i)) (wscols_read arg3 harg3 x2 3 (by decide)))) <|
    congrArg₂ List.cons (pc4 rfl (chunk_of rfl (drain7 i arg7 harg7 s0 x0 (HS0_5_eq c i arg1 harg1 hc1 x0) (off41 i)) (wcols_read arg2 harg2 x1 2 (by decide)) (drain8 i arg8 harg8 s1 x0 (HS1_5_eq c i arg1 harg1 hc1 x0) (off42 i)) (wscols_read arg3 harg3 x2 2 (by decide)))) <|
    congrArg₂ List.cons (pc4 rfl (chunk_of rfl (drain7 i arg7 harg7 s0 x0 (HS0_4_eq c i arg1 harg1 hc1 x0) (off41 i)) (wcols_read arg2 harg2 x1 1 (by decide)) (drain8 i arg8 harg8 s1 x0 (HS1_4_eq c i arg1 harg1 hc1 x0) (off42 i)) (wscols_read arg3 harg3 x2 1 (by decide)))) <|
    congrArg₂ List.cons (pc4 rfl (chunk_of rfl (drain7 i arg7 harg7 s0 x0 (HS0_2_eq c i arg1 harg1 hc1 x0) (off41 i)) (wcols_read arg2 harg2 x1 0 (by decide)) (drain8 i arg8 harg8 s1 x0 (HS1_2_eq c i arg1 harg1 hc1 x0) (off42 i)) (wscols_read arg3 harg3 x2 0 (by decide)))) <|
    rfl

end Cert.KernelIdeal.Gen

end
-- ==== Proof.Run.lean ====
/- The kernel's body meets its obligation at every step, and the run leaves the arrays the steps wrote. -/
module

public import proofs.«01_k».proof.Proof.Steps
public import proofs.«01_k».proof.Proof.PiecesA
public import proofs.«01_k».proof.Proof.PiecesB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: each input's buffer at its block; the result's at the previous tile's
    result, the codes' and the scales' at the tile's; the scratch carried by `PhiR`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yAt m c t
    | ⟨4, _⟩ => tileCodes (iblk m c 0 t)
    | ⟨5, _⟩ => tileScaleRow (iblk m c 0 t)
  Φ t := PhiR m c t.val
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yAt m c t := by dsimp only [dats]
theorem after0_4 (c : Dev nD) (t : Fin cfg0.N) : (dats m 0 c).after 4 t = tileCodes (iblk m c 0 t) := by dsimp only [dats]
theorem after0_5 (c : Dev nD) (t : Fin cfg0.N) : (dats m 0 c).after 5 t = tileScaleRow (iblk m c 0 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant at a point's start and at its end. -/
theorem Phi_castSucc (c : Dev nD) (t : Fin cfg0.N) : (dats m 0 c).Φ t.castSucc = PhiR m c t.val := by dsimp only [dats]; rfl
theorem Phi_succ (c : Dev nD) (t : Fin cfg0.N) : (dats m 0 c).Φ t.succ = PhiR m c (t.val + 1) := by dsimp only [dats]; rfl

/-- A staging buffer at given contents, opened and closed. -/
theorem owns_open {sp : Space} {s : Shape} {e : EltTy} (c : Dev nD) (mm : Memref sig .tc sp s e) (d : s.Idx → Elt F e) :
    (owns (c : Thread nD τ) mm fullShare d : sProp 𝕄) ⊢ iprop(∃ f, ⌜mm.view.read (Elt F) f = d⌝ ∗ (mm.view.loc (c : Thread nD τ) ↦[mm.view.set]{fullShare} f)) := by
  unfold owns; exact .rfl
theorem owns_close {sp : Space} {s : Shape} {e : EltTy} (c : Dev nD) (mm : Memref sig .tc sp s e) (f : mm.view.ty.Contents (Elt F)) :
    (mm.view.loc (c : Thread nD τ) ↦[mm.view.set]{fullShare} f : sProp 𝕄) ⊢ owns (c : Thread nD τ) mm fullShare (mm.view.read (Elt F) f) := by
  unfold owns
  iintro H
  iexists _; isplitr; · ipureintro; rfl
  iexact H
theorem owns_close_eq {sp : Space} {s : Shape} {e : EltTy} (c : Dev nD) (mm : Memref sig .tc sp s e) (f : mm.view.ty.Contents (Elt F))
    (d : s.Idx → Elt F e) (h : mm.view.read (Elt F) f = d) :
    (mm.view.loc (c : Thread nD τ) ↦[mm.view.set]{fullShare} f : sProp 𝕄) ⊢ owns (c : Thread nD τ) mm fullShare d := by
  subst h; exact owns_close c mm f

/-- A block after all its stores, closed at what they make of it. -/
theorem close5 (c : Dev nD) (mm : Memref sig .tc .vmem S512x3456 .fp8e4m3) (f : mm.view.ty.Contents (Elt F)) (L) (x : Vec F S512x3456 .bf16)
    (hL : L = fill5 x 16 (Nat.le_refl _)) :
    (mm.view.loc (c : Thread nD τ) ↦[mm.view.set]{fullShare} mm.view.writes (Elt F) f L : sProp 𝕄) ⊢ owns (c : Thread nD τ) mm fullShare (tileCodes x) := by
  subst hL; exact owns_close_eq c mm _ _ (read5 _ _ _)
theorem close6 (c : Dev nD) (mm : Memref sig .tc .vmem S1x1x512 .f32) (f : mm.view.ty.Contents (Elt F)) (L) (x : Vec F S512x3456 .bf16)
    (hL : L = fill6 x 4 (Nat.le_refl _)) :
    (mm.view.loc (c : Thread nD τ) ↦[mm.view.set]{fullShare} mm.view.writes (Elt F) f L : sProp 𝕄) ⊢ owns (c : Thread nD τ) mm fullShare (tileScaleRow x) := by
  subst hL; exact owns_close_eq c mm _ _ (read6 _ _ _)
theorem close4 (c : Dev nD) (mm : Memref sig .tc .vmem S64x8x5120 .bf16) (f : mm.view.ty.Contents (Elt F)) (L) {q : Vec F S1x512x3456 .fp8e4m3}
    {w : Vec F S3456x5120 .fp8e4m3} {sc : Vec F S1x512x128 .f32} {ws : Vec F S1x5120 .f32} (y : Vec F S64x8x5120 .bf16)
    (hL : L = fill4 q w sc ws 10 (Nat.le_refl _)) (hy : tileY q w sc ws = y) :
    (mm.view.loc (c : Thread nD τ) ↦[mm.view.set]{fullShare} mm.view.writes (Elt F) f L : sProp 𝕄) ⊢ owns (c : Thread nD τ) mm fullShare y := by
  subst hL; subst hy; exact owns_close_eq c mm _ _ (read4 _ _ _ _ _ _)

/-- The filled slot after all its stores. -/
theorem slot7_of (mm : Memref sig .tc .vmem S2x512x3456 .fp8e4m3) (f : mm.view.ty.Contents (Elt F)) (L) (s : Fin 2) (x : Vec F S512x3456 .bf16)
    (hL : L = fill7 s x 16 (Nat.le_refl _)) : slot7 s (mm.view.read (Elt F) (mm.view.writes (Elt F) f L)) = tileCodes3 x := by
  subst hL; exact slot7_fill _ _ _ _
theorem slot8_of (mm : Memref sig .tc .vmem S2x512x128 .f32) (f : mm.view.ty.Contents (Elt F)) (L) (s : Fin 2) (x : Vec F S512x3456 .bf16)
    (hL : L = fill8 s x 16 (Nat.le_refl _)) : slot8 s (mm.view.read (Elt F) (mm.view.writes (Elt F) f L)) = tileScales3 x := by
  subst hL; exact slot8_fill _ _ _ _

/-- The slot a later step drains holds the previous tile, so what it stores is the previous tile's result. -/
theorem yAt_eq (c : Dev nD) (t : Fin cfg0.N) (ht : 1 ≤ t.val) (s0 : Vec F S2x512x3456 .fp8e4m3) (s1 : Vec F S2x512x128 .f32) (hs : SlotsOk m c t.val s0 s1) :
    tileY (slot7 (drainSlot (grid0.coords t)) s0) (iblk m c 1 t) (slot8 (drainSlot (grid0.coords t)) s1) (iblk m c 2 t) = yAt m c t := by
  have hu : (prevPt t).val + 1 = t.val := by show t.val - 1 + 1 = t.val; omega
  rw [drainSlot_eq t (prevPt t) hu, (hs _ hu).1, (hs _ hu).2]
  rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [Phi_castSucc, Phi_succ]
  unfold PhiR
  have hN : t.val < 17 := lt_of_lt_of_eq t.isLt (show cfg0.N = 17 from N_0)
  by_cases h0 : t.val = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [Dat.leavesExact_idle (dats m 0 c) 3 t (idleAt0_3 t h0) (noFlush0_3 t h0)]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨%s0, %s1, %hs, HS0, HS1⟩, Hg⟩, Ho, ⟨%d0, H0⟩, ⟨%d1, H1⟩, ⟨%d2, H2⟩, ⟨%d3, H3⟩, ⟨%d4, H4⟩, ⟨%d5, H5⟩⟩
    ihave H3 := (owns_open _ _ _) $$ H3
    ihave H4 := (owns_open _ _ _) $$ H4
    ihave H5 := (owns_open _ _ _) $$ H5
    icases H3 with ⟨%f3, %hf3, H3⟩
    icases H4 with ⟨%f4, %hf4, H4⟩
    icases H5 with ⟨%f5, %hf5, H5⟩
    iapply ((runA c (grid0.coords t) _ (hs0_0 t) _ (hs0_1 t) _ (hs0_2 t) _ (hs0_3 t) _ (hs0_4 t) _ (hs0_5 t) scM0_0 (Memref.isWhole_whole _) scM0_1 (Memref.isWhole_whole _) ((hcond0_0 t).mpr (by omega)) (fun h => absurd ((hcond0_1 t).mp h) (by omega)) (iblk m c 0 t) (iblk m c 1 t) (iblk m c 2 t) s0 s1).2.2.2.2 f3 f4 f5 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · iexists _; iexists _
        isplitr; swap
        · isplitl [HS0]
          · iapply (owns_close _ _ _); iexact HS0
          iapply (owns_close _ _ _); iexact HS1
        ipureintro
        refine slotsOk_succ m c t _ _ ?_ ?_
        · exact slot7_of _ _ _ _ _ (runA_L7 c (grid0.coords t) _ (hs0_0 t) _ (hs0_1 t) _ (hs0_2 t) _ (hs0_3 t) _ (hs0_4 t) _ (hs0_5 t) scM0_0 (Memref.isWhole_whole _) scM0_1 (Memref.isWhole_whole _) ((hcond0_0 t).mpr (by omega)) (fun h => absurd ((hcond0_1 t).mp h) (by omega)) (iblk m c 0 t) (iblk m c 1 t) (iblk m c 2 t) s0 s1)
        · exact slot8_of _ _ _ _ _ (runA_L8 c (grid0.coords t) _ (hs0_0 t) _ (hs0_1 t) _ (hs0_2 t) _ (hs0_3 t) _ (hs0_4 t) _ (hs0_5 t) scM0_0 (Memref.isWhole_whole _) scM0_1 (Memref.isWhole_whole _) ((hcond0_0 t).mpr (by omega)) (fun h => absurd ((hcond0_1 t).mp h) (by omega)) (iblk m c 0 t) (iblk m c 1 t) (iblk m c 2 t) s0 s1)
      iexact Hg
    isplitl [Ho]; · iexact Ho
    isplitl [H0]; · iexact H0
    isplitl [H1]; · iexact H1
    isplitl [H2]; · iexact H2
    isplitl [H3]
    · iexists d3
      iapply (owns_close_eq _ _ _ _ hf3); iexact H3
    isplitl [H4]
    · iapply (close5 _ _ _ _ _ (runA_L5 c (grid0.coords t) _ (hs0_0 t) _ (hs0_1 t) _ (hs0_2 t) _ (hs0_3 t) _ (hs0_4 t) _ (hs0_5 t) scM0_0 (Memref.isWhole_whole _) scM0_1 (Memref.isWhole_whole _) ((hcond0_0 t).mpr (by omega)) (fun h => absurd ((hcond0_1 t).mp h) (by omega)) (iblk m c 0 t) (iblk m c 1 t) (iblk m c 2 t) s0 s1)); iexact H4
    · iapply (close6 _ _ _ _ _ (runA_L6 c (grid0.coords t) _ (hs0_0 t) _ (hs0_1 t) _ (hs0_2 t) _ (hs0_3 t) _ (hs0_4 t) _ (hs0_5 t) scM0_0 (Memref.isWhole_whole _) scM0_1 (Memref.isWhole_whole _) ((hcond0_0 t).mpr (by omega)) (fun h => absurd ((hcond0_1 t).mp h) (by omega)) (iblk m c 0 t) (iblk m c 1 t) (iblk m c 2 t) s0 s1)); iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t (by omega)], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨%s0, %s1, %hs, HS0, HS1⟩, Hg⟩, Ho, ⟨%d0, H0⟩, ⟨%d1, H1⟩, ⟨%d2, H2⟩, ⟨%d3, H3⟩, ⟨%d4, H4⟩, ⟨%d5, H5⟩⟩
    ihave H3 := (owns_open _ _ _) $$ H3
    ihave H4 := (owns_open _ _ _) $$ H4
    ihave H5 := (owns_open _ _ _) $$ H5
    icases H3 with ⟨%f3, %hf3, H3⟩
    icases H4 with ⟨%f4, %hf4, H4⟩
    icases H5 with ⟨%f5, %hf5, H5⟩
    iapply ((runB c (grid0.coords t) _ (hs0_0 t) _ (hs0_1 t) _ (hs0_2 t) _ (hs0_3 t) _ (hs0_4 t) _ (hs0_5 t) scM0_0 (Memref.isWhole_whole _) scM0_1 (Memref.isWhole_whole _) (fun h => absurd ((hcond0_0 t).mp h) (by omega)) ((hcond0_1 t).mpr (by omega)) (iblk m c 0 t) (iblk m c 1 t) (iblk m c 2 t) s0 s1).2.2.2.2.2 f3 f4 f5 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · iexists _; iexists _
        isplitr; swap
        · isplitl [HS0]
          · iapply (owns_close _ _ _); iexact HS0
          iapply (owns_close _ _ _); iexact HS1
        ipureintro
        refine slotsOk_succ m c t _ _ ?_ ?_
        · exact slot7_of _ _ _ _ _ (runB_L7 c (grid0.coords t) _ (hs0_0 t) _ (hs0_1 t) _ (hs0_2 t) _ (hs0_3 t) _ (hs0_4 t) _ (hs0_5 t) scM0_0 (Memref.isWhole_whole _) scM0_1 (Memref.isWhole_whole _) (fun h => absurd ((hcond0_0 t).mp h) (by omega)) ((hcond0_1 t).mpr (by omega)) (iblk m c 0 t) (iblk m c 1 t) (iblk m c 2 t) s0 s1)
        · exact slot8_of _ _ _ _ _ (runB_L8 c (grid0.coords t) _ (hs0_0 t) _ (hs0_1 t) _ (hs0_2 t) _ (hs0_3 t) _ (hs0_4 t) _ (hs0_5 t) scM0_0 (Memref.isWhole_whole _) scM0_1 (Memref.isWhole_whole _) (fun h => absurd ((hcond0_0 t).mp h) (by omega)) ((hcond0_1 t).mpr (by omega)) (iblk m c 0 t) (iblk m c 1 t) (iblk m c 2 t) s0 s1)
      iexact Hg
    isplitl [Ho]; · iexact Ho
    isplitl [H0]; · iexact H0
    isplitl [H1]; · iexact H1
    isplitl [H2]; · iexact H2
    isplitl [H3]
    · iapply (close4 _ _ _ _ _ (runB_L4 c (grid0.coords t) _ (hs0_0 t) _ (hs0_1 t) _ (hs0_2 t) _ (hs0_3 t) _ (hs0_4 t) _ (hs0_5 t) scM0_0 (Memref.isWhole_whole _) scM0_1 (Memref.isWhole_whole _) (fun h => absurd ((hcond0_0 t).mp h) (by omega)) ((hcond0_1 t).mpr (by omega)) (iblk m c 0 t) (iblk m c 1 t) (iblk m c 2 t) s0 s1) (yAt_eq m c t (by omega) s0 s1 hs)); iexact H3
    isplitl [H4]
    · iapply (close5 _ _ _ _ _ (runB_L5 c (grid0.coords t) _ (hs0_0 t) _ (hs0_1 t) _ (hs0_2 t) _ (hs0_3 t) _ (hs0_4 t) _ (hs0_5 t) scM0_0 (Memref.isWhole_whole _) scM0_1 (Memref.isWhole_whole _) (fun h => absurd ((hcond0_0 t).mp h) (by omega)) ((hcond0_1 t).mpr (by omega)) (iblk m c 0 t) (iblk m c 1 t) (iblk m c 2 t) s0 s1)); iexact H4
    · iapply (close6 _ _ _ _ _ (runB_L6 c (grid0.coords t) _ (hs0_0 t) _ (hs0_1 t) _ (hs0_2 t) _ (hs0_3 t) _ (hs0_4 t) _ (hs0_5 t) scM0_0 (Memref.isWhole_whole _) scM0_1 (Memref.isWhole_whole _) (fun h => absurd ((hcond0_0 t).mp h) (by omega)) ((hcond0_1 t).mpr (by omega)) (iblk m c 0 t) (iblk m c 1 t) (iblk m c 2 t) s0 s1)); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant before the first step asks nothing of the scratch, -/
theorem Phi_in (c : Dev nD) : (Pipeline.ΦA spec0 c : sProp 𝕄) ⊢ PhiR m c 0 := by
  rw [PhiA0_eq]; unfold PhiR
  iintro ⟨⟨⟨%s0, HS0⟩, ⟨%s1, HS1⟩⟩, Hg⟩
  isplitl [HS0 HS1]
  · iexists s0; iexists s1
    isplitr; · ipureintro; intro u hu; omega
    isplitl [HS0]; · iexact HS0
    iexact HS1
  iexact Hg

/-- and after any step it may be forgotten. -/
theorem Phi_out (c : Dev nD) (n : ℕ) : PhiR m c n ⊢ (Pipeline.ΦA spec0 c : sProp 𝕄) := by
  rw [PhiA0_eq]; unfold PhiR
  iintro ⟨⟨%s0, %s1, -, HS0, HS1⟩, Hg⟩
  isplitl [HS0 HS1]
  · isplitl [HS0]
    · iexists s0; iexact HS0
    iexists s1; iexact HS1
  iexact Hg

set_option backward.isDefEq.respectTransparency.types false in
/-- THE LAUNCH: every run ends with the arrays the steps wrote and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Exponent.lean ====
/- The power of two of a row: the kernel finds its exponent bit by bit, comparing with powers of two built as
   words; the reference takes a logarithm. Here both are functions of one extended real, and they agree. -/
module

public import Idealize.ShloMosaic.PureOps.Ideal
public import Idealize.ShloMosaic.PureOps.Ideal.Laws
public import Idealize.ShloMosaic.Lib.IdealHost

@[expose] public section

noncomputable section

namespace Cert.Rows

open Idealize.ShloMosaic

/-- The float whose exponent field is the word `w`. -/
def pow2w (w : BitVec 32) : EReal := FloatOps.ofBits (F := Ideal) .f32 (IntOp.shli .vector w 23#32)

/-- One step of the search: take the bit `b` if the value reaches the power of two with it. -/
def stepW (v : EReal) (n b : BitVec 32) : BitVec 32 :=
  Scalar.select (FloatOps.cmpf (F := Ideal) (φ := .f32) .oge v (pow2w (IntOp.addi n b))) (IntOp.addi n b) n

/-- The search's eight steps. -/
def searchW (v : EReal) : BitVec 32 :=
  stepW v (stepW v (stepW v (stepW v (stepW v (stepW v (stepW v (stepW v 0#32 128#32) 64#32) 32#32) 16#32) 8#32) 4#32) 2#32) 1#32

/-- The exponent the search's word stands for. -/
def expOfW (n : BitVec 32) : BitVec 32 := Scalar.select (IntOp.cmpi .eq n 0#32) 0#32 (IntOp.subi n 126#32)

/-- The power of two at a word exponent, held within −126 and 126. -/
def scaleOfW (e : BitVec 32) : EReal :=
  pow2w (IntOp.addi (IntOp.minsi 126#32 (IntOp.maxsi 4294967170#32 e)) 127#32)

/-- The kernel's exponent of a row from its largest magnitude and that magnitude times the constant. -/
def kExp (a v : EReal) : BitVec 32 :=
  Scalar.select (FloatOps.cmpf (F := Ideal) (φ := .f32) .oeq a (Ideal.ofBits .f32 0x00000000#32)) 0#32 (expOfW (searchW v))

/-- The reference's exponent. -/
def rExp (v : EReal) : EReal :=
  Scalar.select (FloatOps.cmpf (F := Ideal) (φ := .f32) .olt v (Ideal.ofBits .f32 0x00800000#32)) (Ideal.ofBits .f32 0x00000000#32)
    (min (Ideal.liftRound Int.floor (Ideal.div (Ideal.log v) (Ideal.log (Ideal.ofBits .f32 0x40000000#32))) + Ideal.ofBits .f32 0x3F800000#32)
      (Ideal.ofBits .f32 0x42FC0000#32))

theorem ofBits_f32 (b : BitVec 32) : Ideal.ofBits .f32 b = Ideal.ieee 8 23 b := by simp only [Ideal.ofBits]

theorem pow2w_eq (n : ℕ) (h1 : 1 ≤ n) (h2 : n ≤ 254) : pow2w (BitVec.ofNat 32 n) = (((2 : ℝ) ^ ((n : ℤ) - 127) : ℝ) : EReal) := by
  have hs : IntOp.shli .vector (BitVec.ofNat 32 n) 23#32 = BitVec.ofNat 32 n <<< (23#32) := by
    unfold IntOp.shli; rw [if_pos (by decide)]
  have key : ∀ k : Fin 256, (BitVec.ofNat 32 k.val <<< (23#32)).extractLsb' 31 1 = 0#1
      ∧ ((BitVec.ofNat 32 k.val <<< (23#32)).extractLsb' 23 8).toNat = k.val
      ∧ ((BitVec.ofNat 32 k.val <<< (23#32)).extractLsb' 0 23).toNat = 0 := by decide +kernel
  have ha := (key ⟨n, by omega⟩).1
  have hb := (key ⟨n, by omega⟩).2.1
  have hc := (key ⟨n, by omega⟩).2.2
  clear key
  unfold pow2w
  rw [hs, Ideal.ofBits_def, ofBits_f32]
  unfold Ideal.ieee
  simp only [] at ha hb hc
  simp only [Nat.reduceAdd, ha, hb, hc]
  rw [if_neg (by omega), if_neg (by omega)]
  refine congrArg (fun x : ℝ => (x : EReal)) ?_
  have : ((2 : ℝ) ^ 23) = (2 : ℝ) ^ (23 : ℤ) := by norm_num
  simp only [Nat.add_zero, Nat.cast_pow, Nat.cast_ofNat]
  rw [if_neg (by decide), one_mul, this, ← zpow_add₀ (by norm_num)]
  refine congrArg (fun k : ℤ => (2 : ℝ) ^ k) ?_
  norm_num

theorem pow2w_255 : pow2w (BitVec.ofNat 32 255) = ⊤ := by
  have hs : IntOp.shli .vector (BitVec.ofNat 32 255) 23#32 = 0x7F800000#32 := by decide
  unfold pow2w
  rw [hs, Ideal.ofBits_def, ofBits_f32]
  unfold Ideal.ieee
  rw [if_pos (by decide), if_pos (by decide), if_neg (by decide)]

/-- The value reaches the power of two at `n`. -/
def Reach (v : EReal) (n : ℕ) : Prop := pow2w (BitVec.ofNat 32 n) ≤ v

/-- What the search knows before the steps of the bits below `b`. -/
def Inv (v : EReal) (w : BitVec 32) (b : ℕ) : Prop :=
  ∃ n : ℕ, w = BitVec.ofNat 32 n ∧ n + b ≤ 256 ∧ (n = 0 ∨ Reach v n) ∧ (n + b = 256 ∨ ¬ Reach v (n + b))

theorem inv_step (v : EReal) (w : BitVec 32) (b : ℕ) (h : Inv v w (2 * b)) : Inv v (stepW v w (BitVec.ofNat 32 b)) b := by
  obtain ⟨n, rfl, hle, h0, h1⟩ := h
  have hadd : IntOp.addi (BitVec.ofNat 32 n) (BitVec.ofNat 32 b) = BitVec.ofNat 32 (n + b) := by
    unfold IntOp.addi; rw [BitVec.ofNat_add]
  unfold stepW
  rw [hadd]
  by_cases hr : Reach v (n + b)
  · have : FloatOps.cmpf (F := Ideal) (φ := .f32) .oge v (pow2w (BitVec.ofNat 32 (n + b))) = 1 := by
      show BitVec.ofBool (decide _) = 1
      rw [decide_eq_true (show pow2w (BitVec.ofNat 32 (n + b)) ≤ v from hr)]; rfl
    refine ⟨n + b, by rw [this]; rfl, by omega, .inr hr, ?_⟩
    rcases h1 with h1 | h1
    · exact .inl (by omega)
    · exact .inr (by rwa [Nat.add_assoc, ← Nat.two_mul])
  · have : FloatOps.cmpf (F := Ideal) (φ := .f32) .oge v (pow2w (BitVec.ofNat 32 (n + b))) = 0 := by
      show BitVec.ofBool (decide _) = 0
      rw [decide_eq_false (show ¬ pow2w (BitVec.ofNat 32 (n + b)) ≤ v from hr)]; rfl
    exact ⟨n, by rw [this]; rfl, by omega, h0, .inr hr⟩

/-- The search ends at a word that the value reaches, and does not reach the next. -/
theorem search_spec (v : EReal) : ∃ n : ℕ, searchW v = BitVec.ofNat 32 n ∧ n ≤ 255 ∧ (n = 0 ∨ Reach v n) ∧ (n = 255 ∨ ¬ Reach v (n + 1)) := by
  have h : Inv v (searchW v) 1 := by
    unfold searchW
    refine inv_step v _ 1 (inv_step v _ 2 (inv_step v _ 4 (inv_step v _ 8 (inv_step v _ 16 (inv_step v _ 32 (inv_step v _ 64 (inv_step v _ 128 ?_)))))))
    exact ⟨0, rfl, by omega, .inl rfl, .inl (by omega)⟩
  obtain ⟨n, hn, hle, h0, h1⟩ := h
  exact ⟨n, hn, by omega, h0, h1.imp (by omega) id⟩

/-- The exponent of a row as an integer, from the search's number. -/
def expZ (n : ℕ) : ℤ := if n = 0 then 0 else min 126 ((n : ℤ) - 126)

theorem scaleOfW_exp (n : ℕ) (h : n ≤ 255) :
    scaleOfW (expOfW (BitVec.ofNat 32 n)) = (((2 : ℝ) ^ (expZ n) : ℝ) : EReal) := by
  have key : ∀ k : Fin 256, IntOp.addi (IntOp.minsi 126#32 (IntOp.maxsi 4294967170#32 (expOfW (BitVec.ofNat 32 k.val)))) 127#32
      = BitVec.ofNat 32 (expZ k.val + 127).toNat ∧ 1 ≤ (expZ k.val + 127) ∧ (expZ k.val + 127) ≤ 254 := by decide +kernel
  obtain ⟨ha, hb, hc⟩ := key ⟨n, by omega⟩
  simp only [] at ha hb hc
  unfold scaleOfW
  rw [ha, pow2w_eq _ (by omega) (by omega)]
  congr 2
  omega

theorem scaleOfW_neg (n : ℕ) (h : n ≤ 255) :
    scaleOfW (IntOp.subi 0#32 (expOfW (BitVec.ofNat 32 n))) = (((2 : ℝ) ^ (-expZ n) : ℝ) : EReal) := by
  have key : ∀ k : Fin 256, IntOp.addi (IntOp.minsi 126#32 (IntOp.maxsi 4294967170#32 (IntOp.subi 0#32 (expOfW (BitVec.ofNat 32 k.val))))) 127#32
      = BitVec.ofNat 32 (127 - expZ k.val).toNat ∧ 1 ≤ (127 - expZ k.val) ∧ (127 - expZ k.val) ≤ 254 := by decide +kernel
  obtain ⟨ha, hb, hc⟩ := key ⟨n, by omega⟩
  simp only [] at ha hb hc
  unfold scaleOfW
  rw [ha, pow2w_eq _ (by omega) (by omega)]
  congr 2
  omega

theorem ofBits_two : Ideal.ofBits .f32 0x40000000#32 = ((2 : ℝ) : EReal) := by
  have h := pow2w_eq 128 (by omega) (by omega)
  have hs : pow2w (BitVec.ofNat 32 128) = Ideal.ofBits .f32 0x40000000#32 := by
    unfold pow2w; rw [Ideal.ofBits_def]; rfl
  rw [← hs, h]; norm_num

theorem ofBits_tiny : Ideal.ofBits .f32 0x00800000#32 = pow2w (BitVec.ofNat 32 1) := by
  unfold pow2w; rw [Ideal.ofBits_def]; rfl

theorem ofBits_126 : Ideal.ofBits .f32 0x42FC0000#32 = ((126 : ℝ) : EReal) := by
  rw [ofBits_f32]
  unfold Ideal.ieee
  have hb : ((0x42FC0000#32).extractLsb' 23 8).toNat = 133 := by decide
  have hc : ((0x42FC0000#32).extractLsb' 0 23).toNat = 8126464 := by decide
  have ha : (0x42FC0000#32).extractLsb' 31 1 = 0#1 := by decide
  simp only [Nat.reduceAdd, ha, hb, hc]
  rw [if_neg (by decide), if_neg (by decide)]
  norm_num

/-- The logarithm of a positive real to base two, rounded down. -/
theorem floor_log (r : ℝ) (hr : 0 < r) :
    Ideal.liftRound Int.floor (Ideal.div (Ideal.log (r : EReal)) (Ideal.log ((2 : ℝ) : EReal))) = ((⌊Real.log r / Real.log 2⌋ : ℝ) : EReal) := by
  have h2 : (0 : ℝ) < Real.log 2 := Real.log_pos (by norm_num)
  have e1 : Ideal.log (r : EReal) = (Real.log r : EReal) := by
    show (if r ≤ 0 then (⊥ : EReal) else _) = _
    rw [if_neg (not_le.2 hr)]
  have e2 : Ideal.log ((2 : ℝ) : EReal) = (Real.log 2 : EReal) := by
    show (if (2 : ℝ) ≤ 0 then (⊥ : EReal) else _) = _
    rw [if_neg (by norm_num)]
  rw [e1, e2]
  unfold Ideal.div
  rw [if_neg (by exact_mod_cast h2.ne'), ← EReal.coe_inv, ← EReal.coe_mul, ← div_eq_mul_inv]
  rfl

theorem le_floor_log (r : ℝ) (hr : 0 < r) (k : ℤ) (h : (2 : ℝ) ^ k ≤ r) : k ≤ ⌊Real.log r / Real.log 2⌋ := by
  have h2 : (0 : ℝ) < Real.log 2 := Real.log_pos (by norm_num)
  rw [Int.le_floor, le_div_iff₀ h2, ← Real.log_zpow]
  exact Real.log_le_log (by positivity) h

theorem floor_log_lt (r : ℝ) (hr : 0 < r) (k : ℤ) (h : r < (2 : ℝ) ^ k) : ⌊Real.log r / Real.log 2⌋ < k := by
  have h2 : (0 : ℝ) < Real.log 2 := Real.log_pos (by norm_num)
  rw [Int.floor_lt, div_lt_iff₀ h2, ← Real.log_zpow]
  exact Real.log_lt_log hr h

theorem log_of_between (r : ℝ) (k : ℤ) (h1 : (2 : ℝ) ^ k ≤ r) (h2 : r < (2 : ℝ) ^ (k + 1)) : ⌊Real.log r / Real.log 2⌋ = k := by
  have hr : 0 < r := lt_of_lt_of_le (by positivity) h1
  have a := le_floor_log r hr k h1
  have b := floor_log_lt r hr (k + 1) h2
  omega

/-- The reference's exponent is the search's. -/
theorem rExp_eq (v : EReal) (n : ℕ) (hn : n ≤ 255) (h0 : n = 0 ∨ Reach v n) (h1 : n = 255 ∨ ¬ Reach v (n + 1)) :
    rExp v = ((expZ n : ℝ) : EReal) := by
  unfold rExp
  rw [ofBits_two, ofBits_tiny, ofBits_126, Ideal.ofBits_one_f32, Ideal.ofBits_zero_f32]
  by_cases hz : n = 0
  · subst hz
    have hlt : v < pow2w (BitVec.ofNat 32 1) := not_le.1 (h1.resolve_left (by omega))
    have : FloatOps.cmpf (F := Ideal) (φ := .f32) .olt v (pow2w (BitVec.ofNat 32 1)) = 1 := by
      show BitVec.ofBool (decide _) = 1
      rw [decide_eq_true hlt]; rfl
    rw [this]
    show (0 : EReal) = _
    simp [expZ]
  · have hr := h0.resolve_left hz
    have hge : pow2w (BitVec.ofNat 32 1) ≤ v := by
      refine le_trans ?_ hr
      rw [pow2w_eq 1 le_rfl (by omega)]
      by_cases h255 : n = 255
      · subst h255; rw [pow2w_255]; exact le_top
      · rw [pow2w_eq n (by omega) (by omega)]
        exact_mod_cast zpow_le_zpow_right₀ (by norm_num : (1 : ℝ) ≤ 2) (by push_cast; omega : ((1 : ℕ) : ℤ) - 127 ≤ (n : ℤ) - 127)
    have : FloatOps.cmpf (F := Ideal) (φ := .f32) .olt v (pow2w (BitVec.ofNat 32 1)) = 0 := by
      show BitVec.ofBool (decide _) = 0
      rw [decide_eq_false (not_lt.2 hge)]; rfl
    rw [this]
    show min (_ + 1) _ = _
    by_cases h255 : n = 255
    · subst h255
      have hv : v = ⊤ := by
        unfold Reach at hr; rw [pow2w_255] at hr; exact top_le_iff.1 hr
      subst hv
      have h2 : (0 : ℝ) < Real.log 2 := Real.log_pos (by norm_num)
      have e2 : Ideal.log ((2 : ℝ) : EReal) = (Real.log 2 : EReal) := by
        show (if (2 : ℝ) ≤ 0 then (⊥ : EReal) else _) = _
        rw [if_neg (by norm_num)]
      have e : Ideal.div (Ideal.log ⊤) (Ideal.log ((2 : ℝ) : EReal)) = ⊤ := by
        rw [e2]
        unfold Ideal.div
        rw [if_neg (by exact_mod_cast h2.ne'), ← EReal.coe_inv]
        exact EReal.top_mul_coe_of_pos (inv_pos.2 h2)
      rw [e]
      show min ((⊤ : EReal) + 1) _ = _
      rw [show (⊤ : EReal) + 1 = ⊤ from EReal.top_add_of_ne_bot (by decide), min_eq_right le_top]
      norm_num [expZ]
    · have hr' := hr
      unfold Reach at hr'
      rw [pow2w_eq n (by omega) (by omega)] at hr'
      have hnr := h1.resolve_left h255
      have hvt : v ≠ ⊤ := by
        rintro rfl; exact hnr le_top
      have hvb : v ≠ ⊥ := by
        rintro rfl
        exact absurd (le_bot_iff.1 hr') (EReal.coe_ne_bot _)
      obtain ⟨r, rfl⟩ : ∃ r : ℝ, v = (r : EReal) := ⟨v.toReal, (EReal.coe_toReal hvt hvb).symm⟩
      have hr2 : (2 : ℝ) ^ ((n : ℤ) - 127) ≤ r := by exact_mod_cast hr'
      have hpos : 0 < r := lt_of_lt_of_le (by positivity) hr2
      rw [floor_log r hpos]
      by_cases h254 : n = 254
      · subst h254
        have a := le_floor_log r hpos 127 (by
          have : ((254 : ℕ) : ℤ) - 127 = 127 := by norm_num
          rw [this] at hr2; exact hr2)
        have : ((126 : ℝ) : EReal) ≤ ((⌊Real.log r / Real.log 2⌋ : ℝ) : EReal) + 1 := by
          have h : (126 : ℝ) ≤ (⌊Real.log r / Real.log 2⌋ : ℝ) + 1 := by
            have : (127 : ℝ) ≤ (⌊Real.log r / Real.log 2⌋ : ℝ) := by exact_mod_cast a
            linarith
          exact_mod_cast h
        rw [min_eq_right this]
        norm_num [expZ]
      · have hlt : r < (2 : ℝ) ^ (((n : ℤ) - 127) + 1) := by
          have h := not_le.1 hnr
          rw [pow2w_eq (n + 1) (by omega) (by omega)] at h
          have h' : r < (2 : ℝ) ^ (((n + 1 : ℕ) : ℤ) - 127) := by exact_mod_cast h
          convert h' using 2
          push_cast; ring
        rw [log_of_between r _ hr2 hlt]
        have : ((((n : ℤ) - 127 : ℤ) : ℝ) : EReal) + 1 = ((((n : ℤ) - 126 : ℤ) : ℝ) : EReal) := by
          rw [show (1 : EReal) = ((1 : ℝ) : EReal) from rfl, ← EReal.coe_add]
          congr 1; push_cast; ring
        rw [this, show ((126 : ℝ) : EReal) = (((126 : ℤ) : ℝ) : EReal) by norm_num]
        unfold expZ
        rw [if_neg hz]
        rw [min_comm]
        rcases le_total (126 : ℤ) ((n : ℤ) - 126) with h | h
        · rw [min_eq_left h, min_eq_left (by exact_mod_cast h)]
        · rw [min_eq_right h, min_eq_right (by exact_mod_cast h)]

/-- A zero row's exponent is zero already: the search takes no bit. -/
theorem kExp_eq (a c v : EReal) (hv : v = a * c) : kExp a v = expOfW (searchW v) := by
  unfold kExp
  by_cases h : a = 0
  · obtain ⟨n, hn, hle, h0, _⟩ := search_spec v
    have hz : n = 0 := by
      rcases h0 with h0 | h0
      · exact h0
      · by_contra hne
        unfold Reach at h0
        rw [hv, h, zero_mul] at h0
        by_cases h255 : n = 255
        · subst h255; rw [pow2w_255] at h0; exact absurd (top_le_iff.1 h0) (by decide)
        · rw [pow2w_eq n (by omega) (by omega)] at h0
          have : (2 : ℝ) ^ ((n : ℤ) - 127) ≤ 0 := by exact_mod_cast h0
          exact absurd this (not_le.2 (by positivity))
    rw [hn, hz]
    have : expOfW (BitVec.ofNat 32 0) = 0#32 := by decide
    rw [this]
    unfold Scalar.select
    split <;> rfl
  · have : FloatOps.cmpf (F := Ideal) (φ := .f32) .oeq a (Ideal.ofBits .f32 0x00000000#32) = 0 := by
      show BitVec.ofBool (decide _) = 0
      rw [Ideal.ofBits_zero_f32, decide_eq_false h]; rfl
    rw [this]; rfl

/-- The scale of a row, from its largest magnitude: the reference's power of two. -/
theorem scale_eq (a c v : EReal) (hv : v = a * c) : scaleOfW (kExp a v) = Ideal.exp2 (rExp v) := by
  obtain ⟨n, hn, hle, h0, h1⟩ := search_spec v
  rw [kExp_eq a c v hv, hn, scaleOfW_exp n hle, rExp_eq v n hle h0 h1]
  show _ = ((Real.rpow 2 _ : ℝ) : EReal)
  congr 1
  exact (Real.rpow_intCast 2 _).symm

/-- Its reciprocal likewise. -/
theorem inv_eq (a c v : EReal) (hv : v = a * c) :
    scaleOfW (IntOp.subi 0#32 (kExp a v)) = Ideal.exp2 (Ideal.ofBits .f32 0x00000000#32 - rExp v) := by
  obtain ⟨n, hn, hle, h0, h1⟩ := search_spec v
  rw [kExp_eq a c v hv, hn, scaleOfW_neg n hle, rExp_eq v n hle h0 h1, Ideal.ofBits_zero_f32, zero_sub, ← EReal.coe_neg]
  show _ = ((Real.rpow 2 _ : ℝ) : EReal)
  congr 1
  rw [← Int.cast_neg]
  exact (Real.rpow_intCast 2 _).symm

end Cert.Rows

end
-- ==== Proof.RowFns.lean ====
/- What one row of the activations becomes: its scale, its codes, and the layer's value of a row and a column. -/
module

public import proofs.«01_k».proof.Proof.Exponent
public import Idealize.ShloMosaic.Lib.Pointwise

@[expose] public section

noncomputable section

namespace Cert.Rows

open Idealize.ShloMosaic
open scoped BigOperators

/-- The largest magnitude of a row. -/
def amax (r : Fin 3456 → EReal) : EReal :=
  Finset.univ.fold max (Ideal.ofBits .f32 0xFF800000#32) (fun k => max (r k) (-(r k)))

/-- The largest magnitude over the largest code, as the constant makes it. -/
def ratio (r : Fin 3456 → EReal) : EReal := amax r * Ideal.ofBits .f32 0x3B124925#32

/-- The scale of a row. -/
def rowScale (r : Fin 3456 → EReal) : EReal := Ideal.exp2 (rExp (ratio r))

/-- The codes of a row. -/
def rowCode (r : Fin 3456 → EReal) (c : Fin 3456) : EReal :=
  min (Ideal.ofBits .f32 0x43E00000#32) (max (Ideal.ofBits .f32 0xC3E00000#32)
    (r c * Ideal.exp2 (Ideal.ofBits .f32 0x00000000#32 - rExp (ratio r))))

/-- The activation, in the form both programs compute. -/
def gelu (h : EReal) : EReal :=
  Ideal.ofBits .f32 0x3F000000#32 * h * (Ideal.ofBits .f32 0x3F800000#32
    + Ideal.tanh (Ideal.ofBits .f32 0x3F4C422A#32 * (h + Ideal.ofBits .f32 0x3D372713#32 * h * h * h)))

/-- The layer at one row of codes and one column of weights. -/
def layer (q w : Fin 3456 → EReal) (s ws : EReal) : EReal := gelu ((∑ k, q k * w k) * s * ws)

theorem layer_congr {q q' w w' : Fin 3456 → EReal} {s s' t t' : EReal} (h1 : q = q') (h2 : w = w') (h3 : s = s') (h4 : t = t') :
    layer q w s t = layer q' w' s' t' := by rw [h1, h2, h3, h4]

/-- A row of the activations as the programs take them. -/
def arow (x : (⟨3, ![1, 8192, 3456]⟩ : Shape).Idx → EReal) (r : Fin 8192) : Fin 3456 → EReal := fun k => x (ix3 (n0 := 1) (n1 := 8192) (n2 := 3456) 0 r k)

/-- The row a result's element comes from. -/
def yRow (a : Fin 1024) (b : Fin 8) : Fin 8192 := ⟨a.val * 8 + b.val, by have := a.isLt; have := b.isLt; omega⟩

/-- The row a scale belongs to. -/
def sRow (a : Fin 16) (l : Fin 512) : Fin 8192 := ⟨a.val * 512 + l.val, by have := a.isLt; have := l.isLt; omega⟩

/-- The codes of all rows. -/
def allCodes (x : (⟨3, ![1, 8192, 3456]⟩ : Shape).Idx → EReal) : (⟨2, ![8192, 3456]⟩ : Shape).Idx → EReal := fun i =>
  rowCode (arow x (i 0)) (i 1)

/-- The scales of all rows. -/
def allScales (x : (⟨3, ![1, 8192, 3456]⟩ : Shape).Idx → EReal) : (⟨3, ![16, 1, 512]⟩ : Shape).Idx → EReal := fun i =>
  rowScale (arow x (sRow (i 0) (i 2)))

/-- The layer's result. -/
def allY (x : (⟨3, ![1, 8192, 3456]⟩ : Shape).Idx → EReal) (w : (⟨2, ![3456, 5120]⟩ : Shape).Idx → EReal) (ws : (⟨1, ![5120]⟩ : Shape).Idx → EReal) :
    (⟨3, ![1024, 8, 5120]⟩ : Shape).Idx → EReal := fun i =>
  layer (rowCode (arow x (yRow (i 0) (i 1)))) (fun k => w (ix2 (n0 := 3456) (n1 := 5120) k (i 2))) (rowScale (arow x (yRow (i 0) (i 1))))
    (ws (ix1 (n0 := 5120) (i 2)))

end Cert.Rows

end
-- ==== Proof.KernelRows.lean ====
/- The kernel's block of 32 rows over the extended reals: each row's scale and codes are the row functions'. -/
module

public import proofs.«01_k».proof.Proof.Fill
public import proofs.«01_k».proof.Proof.RowFns
public import Idealize.ShloMosaic.Lib.Pointwise

@[expose] public section

set_option maxRecDepth 16384

noncomputable section

namespace Cert.KernelIdeal.Gen

open Idealize.ShloMosaic

/-- A row of a block of 32. -/
def brow (xb : Vec Ideal S32x3456 .bf16) (a : Fin 32) : Fin 3456 → EReal := fun k => xb (ix2 (n0 := 32) (n1 := 3456) a k)

/-- A row of a tile. -/
def trow (x : Vec Ideal S512x3456 .bf16) (a : Fin 512) : Fin 3456 → EReal := fun k => x (ix2 (n0 := 512) (n1 := 3456) a k)

theorem blk_amax (xb : Vec Ideal S32x3456 .bf16) (a : Fin 32) :
    k0_pay3 xb (ix2 (n0 := 32) (n1 := 1) a 0) = Rows.amax (brow xb a) := by
  unfold k0_pay3 k0_pay2
  pointwise
  rfl

theorem blk_ratio (xb : Vec Ideal S32x3456 .bf16) (a : Fin 32) :
    k0_pay4 xb (ix2 (n0 := 32) (n1 := 1) a 0) = Rows.ratio (brow xb a) := by
  unfold Rows.ratio
  rw [← blk_amax xb a]
  rfl

/-- The block's exponents are the search's. -/
theorem blk_exp (xb : Vec Ideal S32x3456 .bf16) (a : Fin 32) :
    k0_pay9 (F := Ideal) (k0_pay3 xb) (blkExp xb) (Scalar.ofBits .f32 0) (ix2 (n0 := 32) (n1 := 1) a 0)
      = Rows.kExp (Rows.amax (brow xb a)) (Rows.ratio (brow xb a)) := by
  rw [← blk_amax, ← blk_ratio]
  rfl

theorem blkScales_apply (xb : Vec Ideal S32x3456 .bf16) (a : Fin 32) (l : Fin 128) :
    blkScales xb (ix2 (n0 := 32) (n1 := 128) a l) = Rows.rowScale (brow xb a) := by
  have h : blkScales xb (ix2 (n0 := 32) (n1 := 128) a l)
      = Rows.scaleOfW (k0_pay9 (F := Ideal) (k0_pay3 xb) (blkExp xb) (Scalar.ofBits .f32 0) (ix2 (n0 := 32) (n1 := 1) a 0)) := by
    unfold blkScales k0_pay12
    generalize k0_pay9 (F := Ideal) _ _ _ = e
    pointwise
    rfl
  rw [h, blk_exp]
  exact Rows.scale_eq _ _ _ rfl

theorem blkCodes_apply (xb : Vec Ideal S32x3456 .bf16) (a : Fin 32) (c : Fin 3456) :
    blkCodes xb (ix2 (n0 := 32) (n1 := 3456) a c) = Rows.rowCode (brow xb a) c := by
  have h : blkCodes xb (ix2 (n0 := 32) (n1 := 3456) a c)
      = min (Ideal.ofBits .f32 0x43E00000#32) (max (Ideal.ofBits .f32 0xC3E00000#32)
          (brow xb a c * Rows.scaleOfW (IntOp.subi 0#32
            (k0_pay9 (F := Ideal) (k0_pay3 xb) (blkExp xb) (Scalar.ofBits .f32 0) (ix2 (n0 := 32) (n1 := 1) a 0))))) := by
    unfold blkCodes k0_pay10 k0_pay2
    generalize k0_pay9 (F := Ideal) _ _ _ = e
    pointwise
    rfl
  rw [h, blk_exp, Rows.inv_eq _ (Ideal.ofBits .f32 0x3B124925#32) (Rows.ratio (brow xb a)) rfl]
  rfl

/-- A row of the block of rows a tile's row lies in. -/
theorem brow_rows (x : Vec Ideal S512x3456 .bf16) (a : Fin 512) :
    brow (rows x (a.val / 32)) ⟨a.val % 32, Nat.mod_lt _ (by decide)⟩ = trow x a := by
  funext k
  refine congrArg x (funext fun i => Fin.ext ?_)
  match i with
  | ⟨0, _⟩ =>
    have ha : a.val < 512 := a.isLt
    show (32 * (a.val / 32) + a.val % 32) % 512 = a.val
    omega
  | ⟨1, _⟩ => rfl

theorem tileCodes_apply (x : Vec Ideal S512x3456 .bf16) (a : Fin 512) (c : Fin 3456) :
    tileCodes x (ix2 (n0 := 512) (n1 := 3456) a c) = Rows.rowCode (trow x a) c := by
  unfold tileCodes
  exact (blkCodes_apply _ _ _).trans (by rw [← brow_rows x a]; rfl)

theorem tileScales_apply (x : Vec Ideal S512x3456 .bf16) (a : Fin 512) (l : Fin 128) :
    tileScales x (ix2 (n0 := 512) (n1 := 128) a l) = Rows.rowScale (trow x a) := by
  unfold tileScales
  exact (blkScales_apply _ _ _).trans (by rw [← brow_rows x a]; rfl)

end Cert.KernelIdeal.Gen

end
-- ==== Proof.KernelTiles.lean ====
/- The kernel's blocks over the extended reals, element by element: the result of a tile and its scales are the row functions'. -/
module

public import proofs.«01_k».proof.Proof.Steps
public import proofs.«01_k».proof.Proof.KernelRows

@[expose] public section

set_option maxRecDepth 16384

noncomputable section

namespace Cert.KernelIdeal.Gen

open Idealize.ShloMosaic
open scoped BigOperators

/-- The row of a tile that a result block's element at `(a, b)` comes from. -/
def yrow (a : Fin 64) (b : Fin 8) : Fin 512 := ⟨a.val * 8 + b.val, by have := a.isLt; have := b.isLt; omega⟩

/-- Four copies of the lanes side by side, when every lane of a row holds that row's scale. -/
theorem concat_apply (sc : Vec Ideal S1x512x128 .f32) (s : Fin 512 → EReal)
    (hs : ∀ r l, sc (ix3 (n0 := 1) (n1 := 512) (n2 := 128) 0 r l) = s r) (r : Fin 512) (l : Fin 512) :
    concatenate S512x512 1 [⟨S512x128, shapeCast S512x128 sc shapeCasts_S1x512x128_S512x128⟩, ⟨S512x128, shapeCast S512x128 sc shapeCasts_S1x512x128_S512x128⟩,
      ⟨S512x128, shapeCast S512x128 sc shapeCasts_S1x512x128_S512x128⟩, ⟨S512x128, shapeCast S512x128 sc shapeCasts_S1x512x128_S512x128⟩]
      concatenates_S512x128_S512x128_S512x128_S512x128_S512x512_d1 (ix2 (n0 := 512) (n1 := 512) r l) = s r := by
  pointwise
  split
  · exact hs _ _
  · split
    · exact hs _ _
    · split
      · exact hs _ _
      · exact hs _ _

/-- A chunk of the result, when every lane of a row holds that row's scale. -/
theorem chunkY_apply (q : Vec Ideal S1x512x3456 .fp8e4m3) (w : Vec Ideal S3456x512 .fp8e4m3) (sc : Vec Ideal S1x512x128 .f32)
    (ws : Vec Ideal S1x512 .f32) (s : Fin 512 → EReal) (hs : ∀ r l, sc (ix3 (n0 := 1) (n1 := 512) (n2 := 128) 0 r l) = s r)
    (a : Fin 64) (b : Fin 8) (l : Fin 512) :
    chunkY q w sc ws (ix3 (n0 := 64) (n1 := 8) (n2 := 512) a b l)
      = Rows.layer (fun k => q (ix3 (n0 := 1) (n1 := 512) (n2 := 3456) 0 (yrow a b) k)) (fun k => w (ix2 (n0 := 3456) (n1 := 512) k l))
          (s (yrow a b)) (ws (ix2 (n0 := 1) (n1 := 512) 0 l)) := by
  have hg := concat_apply sc s hs
  unfold chunkY k0_pay235 Rows.layer Rows.gelu
  rw [Ideal.ofBits_one_f32]
  generalize concatenate S512x512 1 _ _ = g at hg ⊢
  pointwise
  rw [hg]
  rfl

/-- The sum over the diagonal's mask is the diagonal. -/
theorem lanes_apply (v : Vec Ideal S1x128x128 .f32) (l : Fin 128) :
    lanes v (ix3 (n0 := 1) (n1 := 1) (n2 := 128) 0 0 l) = v (ix3 (n0 := 1) (n1 := 128) (n2 := 128) 0 l l) := by
  have h : lanes v (ix3 (n0 := 1) (n1 := 1) (n2 := 128) 0 0 l)
      = ∑ x : Fin 128, Scalar.select (IntOp.cmpi .eq (BitVec.ofNat 32 x.val) (BitVec.ofNat 32 l.val)) (v (ix3 (n0 := 1) (n1 := 128) (n2 := 128) 0 x l)) (0 : EReal) := by
    unfold lanes k0_pay205
    pointwise
  rw [h, Finset.sum_eq_single l]
  · have : IntOp.cmpi .eq (BitVec.ofNat 32 l.val) (BitVec.ofNat 32 l.val) = 1 := by
      unfold IntOp.cmpi; simp
    rw [this]; rfl
  · intro x _ hx
    have : IntOp.cmpi .eq (BitVec.ofNat 32 x.val) (BitVec.ofNat 32 l.val) = 0 := by
      have hne : BitVec.ofNat 32 x.val ≠ BitVec.ofNat 32 l.val := by
        intro e
        have := congrArg BitVec.toNat e
        simp only [BitVec.toNat_ofNat] at this
        have h1 := x.isLt
        have h2 := l.isLt
        exact hx (Fin.ext (by omega))
      show BitVec.ofBool (BitVec.ofNat 32 x.val == BitVec.ofNat 32 l.val) = 0
      rw [beq_eq_false_iff_ne.2 hne]; rfl
    rw [this]; rfl
  · intro hl; exact absurd (Finset.mem_univ l) hl

/-- A tile's scales block. -/
theorem tileScaleRow_apply (x : Vec Ideal S512x3456 .bf16) (l : Fin 512) :
    tileScaleRow x (ix3 (n0 := 1) (n1 := 1) (n2 := 512) 0 0 l) = Rows.rowScale (trow x l) := by
  unfold tileScaleRow
  refine (lanes_apply _ _).trans ?_
  refine (tileScales_apply x _ _).trans ?_
  refine congrArg (fun r => Rows.rowScale (trow x r)) (Fin.ext ?_)
  have := l.isLt
  show (128 * (l.val / 128) + l.val % 128) % 512 = l.val
  omega

/-- A tile's result block. -/
theorem tileY_apply (x : Vec Ideal S512x3456 .bf16) (w : Vec Ideal S3456x5120 .fp8e4m3) (ws : Vec Ideal S1x5120 .f32)
    (a : Fin 64) (b : Fin 8) (c : Fin 5120) :
    tileY (tileCodes3 x) w (tileScales3 x) ws (ix3 (n0 := 64) (n1 := 8) (n2 := 5120) a b c)
      = Rows.layer (Rows.rowCode (trow x (yrow a b))) (fun k => w (ix2 (n0 := 3456) (n1 := 5120) k c))
          (Rows.rowScale (trow x (yrow a b))) (ws (ix2 (n0 := 1) (n1 := 5120) 0 c)) := by
  unfold tileY
  refine (chunkY_apply _ _ _ _ (fun r => Rows.rowScale (trow x r)) (fun r l => tileScales_apply x r l) a b _).trans ?_
  have hc : (⟨(512 * (c.val / 512) + c.val % 512) % 5120, Nat.mod_lt _ (by decide)⟩ : Fin 5120) = c :=
    Fin.ext (by have := c.isLt; show (512 * (c.val / 512) + c.val % 512) % 5120 = c.val; omega)
  have e1 : (fun k => tileCodes3 x (ix3 (n0 := 1) (n1 := 512) (n2 := 3456) 0 (yrow a b) k)) = Rows.rowCode (trow x (yrow a b)) :=
    funext fun k => tileCodes_apply x _ k
  have e2 : (fun k => wcols w (c.val / 512) (ix2 (n0 := 3456) (n1 := 512) k ⟨c.val % 512, Nat.mod_lt _ (by decide)⟩))
      = fun k => w (ix2 (n0 := 3456) (n1 := 5120) k c) :=
    funext fun k => congrArg (fun z => w (ix2 (n0 := 3456) (n1 := 5120) k z)) hc
  have e3 : wscols ws (c.val / 512) (ix2 (n0 := 1) (n1 := 512) 0 ⟨c.val % 512, Nat.mod_lt _ (by decide)⟩) = ws (ix2 (n0 := 1) (n1 := 5120) 0 c) :=
    congrArg (fun z => ws (ix2 (n0 := 1) (n1 := 5120) 0 z)) hc
  exact Rows.layer_congr e1 e2 rfl e3

end Cert.KernelIdeal.Gen

end
-- ==== Proof.KernelValues.lean ====
/- The kernel's three result arrays over the extended reals, as functions of the arguments. -/
module

public import proofs.«01_k».proof.Proof.Run
public import proofs.«01_k».proof.Proof.KernelTiles
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies at a step. -/
theorem idx0 : ∀ t : Fin cfg0.N, win0_0.index t = ![min t.val 15, 0] := (by decide +kernel : ∀ t : Fin grid0.N, win0_0.index t = ![min t.val 15, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val - 1, 0, 0] := (by decide +kernel : ∀ t : Fin grid0.N, win0_3.index t = ![t.val - 1, 0, 0])
theorem idx4 : ∀ t : Fin cfg0.N, win0_4.index t = ![min t.val 15, 0] := (by decide +kernel : ∀ t : Fin grid0.N, win0_4.index t = ![min t.val 15, 0])
theorem idx5 : ∀ t : Fin cfg0.N, win0_5.index t = ![min t.val 15, 0, 0] := (by decide +kernel : ∀ t : Fin grid0.N, win0_5.index t = ![min t.val 15, 0, 0])

/-- The activations, weights and weight scales as the program takes them. -/
abbrev argX (c : Dev nD) : S1x8192x3456.Idx → EReal := m ((c.tc : Thread nD τ).loc main_arg0)
abbrev argW (c : Dev nD) : S3456x5120.Idx → EReal := m ((c.tc : Thread nD τ).loc main_arg1)
abbrev argS (c : Dev nD) : S5120.Idx → EReal := m ((c.tc : Thread nD τ).loc main_arg2)

theorem V0_apply (c : Dev nD) (r : Fin 8192) (k : Fin 3456) :
    V m c main_v0 (ix2 (n0 := 8192) (n1 := 3456) r k) = argX m c (ix3 (n0 := 1) (n1 := 8192) (n2 := 3456) 0 r k) := by
  entry_read
  pointwise

theorem V1_apply (c : Dev nD) (z : Fin 1) (k : Fin 5120) :
    V m c main_v1 (ix2 (n0 := 1) (n1 := 5120) z k) = argS m c (ix1 (n0 := 5120) k) := by
  entry_read
  pointwise

/-- The row of the activations that row `a` of step `t`'s tile is. -/
def tRow (t : Fin cfg0.N) (a : Fin 512) : Fin 8192 := ⟨min t.val 15 * 512 + a.val, by have := a.isLt; omega⟩

theorem trow_iblk (c : Dev nD) (t : Fin cfg0.N) (a : Fin 512) : trow (iblk m c 0 t) a = Rows.arow (argX m c) (tRow t a) := by
  funext k
  refine Eq.trans ?_ (V0_apply m c (tRow t a) k)
  unfold trow
  blk_ext [iblk, idx0 t, tRow]

theorem w_iblk (c : Dev nD) (t : Fin cfg0.N) (k : Fin 3456) (j : Fin 5120) :
    iblk m c 1 t (ix2 (n0 := 3456) (n1 := 5120) k j) = argW m c (ix2 (n0 := 3456) (n1 := 5120) k j) := by
  refine Eq.trans ?_ (congrFun (V_main_arg1 m c) (ix2 (n0 := 3456) (n1 := 5120) k j))
  blk_ext [iblk, idx1 t]

theorem ws_iblk (c : Dev nD) (t : Fin cfg0.N) (j : Fin 5120) :
    iblk m c 2 t (ix2 (n0 := 1) (n1 := 5120) 0 j) = argS m c (ix1 (n0 := 5120) j) := by
  refine Eq.trans ?_ (V1_apply m c 0 j)
  blk_ext [iblk, idx2 t]

theorem rowCode_congr {r r' : Fin 3456 → EReal} {k k' : Fin 3456} (h : r = r') (hk : k = k') : Rows.rowCode r k = Rows.rowCode r' k' := by
  rw [h, hk]

theorem final4 (c : Dev nD) : (dats m 0 c).arrAt 4 cfg0.N = (Rows.allCodes (argX m c) : S8192x3456.Idx → EReal) := by
  refine (dats m 0 c).arrAt_eq_of_covers 4 _ (by decide +kernel) fun t hf y => ?_
  blk_simp
  rw [after0_4]
  have e0 : ((win0_4.blk t).view.emb y) 0 = tRow t (y 0) := Fin.ext (by blk_simp [idx4 t, tRow])
  have e1 : ((win0_4.blk t).view.emb y) 1 = y 1 := Fin.ext (by blk_simp [idx4 t])
  refine (congrArg (tileCodes (iblk m c 0 t)) (eq_ix2 y)).trans ((tileCodes_apply _ _ _).trans ?_)
  exact rowCode_congr ((trow_iblk m c t (y 0)).trans (congrArg (Rows.arow (argX m c)) e0.symm)) e1.symm

theorem final5 (c : Dev nD) : (dats m 0 c).arrAt 5 cfg0.N = (Rows.allScales (argX m c) : S16x1x512.Idx → EReal) := by
  refine (dats m 0 c).arrAt_eq_of_covers 5 _ (by decide +kernel) fun t hf y => ?_
  blk_simp
  rw [after0_5]
  have e0 : (((win0_5.blk t).view.emb y) 0 : ℕ) = min t.val 15 := by
    blk_simp [idx5 t]
  have e2 : (((win0_5.blk t).view.emb y) 2 : ℕ) = (y 2).val := by
    blk_simp [idx5 t]
  have hy : y = ix3 (n0 := 1) (n1 := 1) (n2 := 512) 0 0 (y 2) := by
    funext a
    match a with
    | ⟨0, _⟩ => exact Subsingleton.elim (α := Fin 1) _ _
    | ⟨1, _⟩ => exact Subsingleton.elim (α := Fin 1) _ _
    | ⟨2, _⟩ => rfl
  refine (congrArg (tileScaleRow (iblk m c 0 t)) hy).trans ((tileScaleRow_apply _ _).trans ?_)
  refine congrArg Rows.rowScale ((trow_iblk m c t (y 2)).trans (congrArg (Rows.arow (argX m c)) (Fin.ext ?_)))
  show min t.val 15 * 512 + (y 2).val = (((win0_5.blk t).view.emb y) 0 : ℕ) * 512 + (((win0_5.blk t).view.emb y) 2 : ℕ)
  rw [e0, e2]

theorem flush3_pos : ∀ t : Fin cfg0.N, (cfg0.win 3).flush t = true → 1 ≤ t.val :=
  (by decide +kernel : ∀ t : Fin grid0.N, win0_3.flush t = true → 1 ≤ t.val)

theorem final3 (c : Dev nD) : (dats m 0 c).arrAt 3 cfg0.N = (Rows.allY (argX m c) (argW m c) (argS m c) : S1024x8x5120.Idx → EReal) := by
  refine (dats m 0 c).arrAt_eq_of_covers 3 _ (by decide +kernel) fun t hf y => ?_
  have ht : 1 ≤ t.val := flush3_pos t hf
  have ht' : t.val < 17 := t.isLt
  blk_simp
  rw [after0_3]
  have e0 : (((win0_3.blk t).view.emb y) 0 : ℕ) = (t.val - 1) * 64 + (y 0).val := by blk_simp [idx3 t]
  have e1 : (((win0_3.blk t).view.emb y) 1 : ℕ) = (y 1).val := by blk_simp [idx3 t]
  have e2 : ((win0_3.blk t).view.emb y) 2 = y 2 := Fin.ext (by blk_simp [idx3 t])
  have er : tRow (prevPt t) (yrow (y 0) (y 1)) = Rows.yRow (((win0_3.blk t).view.emb y) 0) (((win0_3.blk t).view.emb y) 1) := by
    refine Fin.ext ?_
    show min (t.val - 1) 15 * 512 + ((y 0).val * 8 + (y 1).val) = (((win0_3.blk t).view.emb y) 0 : ℕ) * 8 + (((win0_3.blk t).view.emb y) 1 : ℕ)
    rw [e0, e1]
    omega
  unfold yAt
  refine (congrArg (tileY _ _ _ _) (eq_ix3 y)).trans ((tileY_apply _ _ _ _ _ _).trans ?_)
  have hx := (trow_iblk m c (prevPt t) (yrow (y 0) (y 1))).trans (congrArg (Rows.arow (argX m c)) er)
  refine Rows.layer_congr (congrArg Rows.rowCode hx) (funext fun k => ?_) (congrArg Rows.rowScale hx) ?_
  · refine (w_iblk m c t k (y 2)).trans ?_
    exact congrArg (fun j => argW m c (ix2 (n0 := 3456) (n1 := 5120) k j)) e2.symm
  · refine (ws_iblk m c t (y 2)).trans ?_
    exact congrArg (fun j => argS m c (ix1 (n0 := 5120) j)) e2.symm

/-- The run, read: the three results as functions of the arguments, the arguments unchanged. -/
theorem run_values : θ_run defs (onTc (τ := τ) (main (F := Ideal))) ⟨m, fun _ => 0, ρ⟩ (fun r => ∀ c : Dev nD,
      r.2.mem ((c.tc : Thread nD τ).loc main_v2_0) = (Rows.allY (argX m c) (argW m c) (argS m c) : S1024x8x5120.Idx → EReal)
      ∧ r.2.mem ((c.tc : Thread nD τ).loc main_v2_1) = (Rows.allCodes (argX m c) : S8192x3456.Idx → EReal)
      ∧ r.2.mem ((c.tc : Thread nD τ).loc main_v2_2) = (Rows.allScales (argX m c) : S16x1x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.Gen

end
-- ==== Proof.RefRows.lean ====
/- The reference over the extended reals, element by element: its three results are the row functions'. -/
module

public import proofs.«01_k».proof.Proof.Gen.ReferenceIdeal.Frame
public import proofs.«01_k».proof.Proof.RowFns
public import Idealize.ShloMosaic.Lib.Pointwise
public import Idealize.ShloMosaic.Lib.WholeRead

@[expose] public section

set_option maxRecDepth 16384

noncomputable section

namespace Cert.ReferenceIdeal.Gen

open Idealize.ShloMosaic
open scoped BigOperators

/-- A row of the whole activations. -/
def xrow (x : Vec Ideal S8192x3456 .bf16) (a : Fin 8192) : Fin 3456 → EReal := fun k => x (ix2 (n0 := 8192) (n1 := 3456) a k)

/-- The row that a result's element at `(a, b)` comes from. -/
def yrow (a : Fin 1024) (b : Fin 8) : Fin 8192 := ⟨a.val * 8 + b.val, by have := a.isLt; have := b.isLt; omega⟩

/-- The row that a scale's element at `(a, l)` comes from. -/
def srow (a : Fin 16) (l : Fin 512) : Fin 8192 := ⟨a.val * 512 + l.val, by have := a.isLt; have := l.isLt; omega⟩

theorem pay3_apply (x : Vec Ideal S8192x3456 .bf16) (a : Fin 8192) (k : Fin 3456) :
    k0_pay3 x (ix2 (n0 := 8192) (n1 := 3456) a k) = xrow x a k := by
  unfold k0_pay3
  rw [shapeCast_id]
  rfl

/-- The exponents, at any largest magnitudes and constants. -/
theorem exps_of (m : FVec Ideal S8192 .f32) (k1 k2 k3 k4 k5 k6 : Ideal .f32) (a : Fin 8192) :
    select (cmpf .olt (mulf (shapeCast S8192x1 m shapeCasts_S8192_S8192x1) (broadcast S8192x1 k1)) (broadcast S8192x1 k4)) (broadcast S8192x1 k6)
        (minimumf (addf (floor (divf (log (mulf (shapeCast S8192x1 m shapeCasts_S8192_S8192x1) (broadcast S8192x1 k1))) (log (broadcast S8192x1 k2))))
          (broadcast S8192x1 k3)) (broadcast S8192x1 k5)) (ix2 (n0 := 8192) (n1 := 1) a 0)
      = Scalar.select (FloatOps.cmpf (F := Ideal) (φ := .f32) .olt (m (ix1 (n0 := 8192) a) * k1) k4) k6
          (min (Ideal.liftRound Int.floor (Ideal.div (Ideal.log (m (ix1 (n0 := 8192) a) * k1)) (Ideal.log k2)) + k3) k5) := by
  pointwise

theorem amax_of (x3 : FVec Ideal S8192x3456 .f32) (a : Fin 8192) :
    multiReduction .maximumf [1] S8192 (absf x3) 0xFF800000#32 reduces_S8192x3456_S8192 (.inl rfl) rfl (ix1 (n0 := 8192) a)
      = Rows.amax fun k => x3 (ix2 (n0 := 8192) (n1 := 3456) a k) := by
  unfold Rows.amax
  pointwise
  simp only [Ideal.absf_def]

theorem ref_exp (x : Vec Ideal S8192x3456 .bf16) (a : Fin 8192) :
    k0_pay4 x (ix2 (n0 := 8192) (n1 := 1) a 0) = Rows.rExp (Rows.ratio (xrow x a)) := by
  have e : (fun k => k0_pay3 x (ix2 (n0 := 8192) (n1 := 3456) a k)) = xrow x a := funext fun k => pay3_apply x a k
  unfold k0_pay4 Rows.rExp Rows.ratio
  rw [← e, ← amax_of]
  exact exps_of _ _ _ _ _ _ _ a

theorem exp2_of (e : FVec Ideal S8192x1 .f32) (a : Fin 8192) :
    exp2 e (ix2 (n0 := 8192) (n1 := 1) a 0) = Ideal.exp2 (e (ix2 (n0 := 8192) (n1 := 1) a 0)) := rfl

theorem ref_scale (x : Vec Ideal S8192x3456 .bf16) (a : Fin 8192) :
    k0_pay5 x (ix2 (n0 := 8192) (n1 := 1) a 0) = Rows.rowScale (xrow x a) := by
  unfold Rows.rowScale k0_pay5
  rw [← ref_exp]
  exact exp2_of _ _

/-- The codes, at any constants. -/
theorem codes_of (x3 : FVec Ideal S8192x3456 .f32) (e : FVec Ideal S8192x1 .f32) (c1 c2 : Ideal .f32) (a : Fin 8192) (c : Fin 3456) :
    truncf .fp8e4m3 (minimumf (broadcast S8192x3456 c2) (maximumf (broadcast S8192x3456 c1)
        (mulf x3 (broadcastTo S8192x3456 e broadcasts_S8192x1_S8192x3456)))) bitsLt_fp8e4m3_f32 (ix2 (n0 := 8192) (n1 := 3456) a c)
      = min c2 (max c1 (x3 (ix2 (n0 := 8192) (n1 := 3456) a c) * e (ix2 (n0 := 8192) (n1 := 1) a 0))) := by
  pointwise

theorem inv_of (e : FVec Ideal S8192x1 .f32) (z : Ideal .f32) (a : Fin 8192) :
    exp2 (subf (broadcast S8192x1 z) e) (ix2 (n0 := 8192) (n1 := 1) a 0) = Ideal.exp2 (z - e (ix2 (n0 := 8192) (n1 := 1) a 0)) := rfl

theorem ref_codes (x : Vec Ideal S8192x3456 .bf16) (a : Fin 8192) (c : Fin 3456) :
    k0_pay6 x (ix2 (n0 := 8192) (n1 := 3456) a c) = Rows.rowCode (xrow x a) c := by
  unfold Rows.rowCode k0_pay6
  rw [← ref_exp, ← pay3_apply, ← inv_of]
  exact codes_of _ _ _ _ _ _

theorem ref_scales (x : Vec Ideal S8192x3456 .bf16) (a : Fin 16) (l : Fin 512) :
    k0_pay2 (k0_pay5 x) (ix3 (n0 := 16) (n1 := 1) (n2 := 512) a 0 l) = Rows.rowScale (xrow x (srow a l)) := by
  rw [← ref_scale]
  unfold k0_pay2
  generalize k0_pay5 x = e
  pointwise
  rfl

theorem ref_y (x : Vec Ideal S8192x3456 .bf16) (w : Vec Ideal S3456x5120 .fp8e4m3) (ws : Vec Ideal S1x5120 .f32)
    (a : Fin 1024) (b : Fin 8) (c : Fin 5120) :
    k0_pay1 (k0_pay7 x w ws) (k0_pay8 x w ws) (ix3 (n0 := 1024) (n1 := 8) (n2 := 5120) a b c)
      = Rows.layer (Rows.rowCode (xrow x (yrow a b))) (fun k => w (ix2 (n0 := 3456) (n1 := 5120) k c))
          (Rows.rowScale (xrow x (yrow a b))) (ws (ix2 (n0 := 1) (n1 := 5120) 0 c)) := by
  have e : Rows.rowCode (xrow x (yrow a b)) = fun k => k0_pay6 x (ix2 (n0 := 8192) (n1 := 3456) (yrow a b) k) :=
    funext fun k => (ref_codes x _ k).symm
  rw [e, ← ref_scale]
  unfold k0_pay1 k0_pay8 k0_pay7 Rows.layer Rows.gelu
  rw [Ideal.ofBits_one_f32]
  generalize k0_pay6 x = q
  generalize k0_pay5 x = s
  pointwise
  rfl

end Cert.ReferenceIdeal.Gen

end
-- ==== Proof.RefValues.lean ====
/- The reference's three result arrays over the extended reals, as functions of the arguments. -/
module

public import proofs.«01_k».proof.Proof.RefRows
public import Idealize.ShloMosaic.Lib.Claim
public import Idealize.ShloMosaic.Lib.Pipeline.ValueKit

@[expose] public section

set_option maxRecDepth 16384

noncomputable section

namespace Cert.ReferenceIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window's one block is its whole array. -/
theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0, 0] := (by decide +kernel : ∀ t : Fin grid0.N, win0_5.index t = ![0, 0, 0])

/-- The activations, weights and weight scales as the program takes them. -/
abbrev argX (c : Dev nD) : S1x8192x3456.Idx → EReal := m ((c.tc : Thread nD τ).loc main_arg0)
abbrev argW (c : Dev nD) : S3456x5120.Idx → EReal := m ((c.tc : Thread nD τ).loc main_arg1)
abbrev argS (c : Dev nD) : S5120.Idx → EReal := m ((c.tc : Thread nD τ).loc main_arg2)

theorem V0_apply (c : Dev nD) (r : Fin 8192) (k : Fin 3456) :
    V m c main_v0 (ix2 (n0 := 8192) (n1 := 3456) r k) = argX m c (ix3 (n0 := 1) (n1 := 8192) (n2 := 3456) 0 r k) := by
  entry_read
  pointwise

theorem V1_apply (c : Dev nD) (z : Fin 1) (k : Fin 5120) :
    V m c main_v1 (ix2 (n0 := 1) (n1 := 5120) z k) = argS m c (ix1 (n0 := 5120) k) := by
  entry_read
  pointwise

theorem xrow_iblk (c : Dev nD) (t : Fin cfg0.N) (a : Fin 8192) : xrow (iblk m c 0 t) a = Rows.arow (argX m c) a := by
  funext k
  refine Eq.trans ?_ (V0_apply m c a k)
  unfold xrow
  blk_ext [iblk, idx0 t]

theorem w_iblk (c : Dev nD) (t : Fin cfg0.N) (k : Fin 3456) (j : Fin 5120) :
    iblk m c 1 t (ix2 (n0 := 3456) (n1 := 5120) k j) = argW m c (ix2 (n0 := 3456) (n1 := 5120) k j) := by
  refine Eq.trans ?_ (congrFun (V_main_arg1 m c) (ix2 (n0 := 3456) (n1 := 5120) k j))
  blk_ext [iblk, idx1 t]

theorem ws_iblk (c : Dev nD) (t : Fin cfg0.N) (j : Fin 5120) :
    iblk m c 2 t (ix2 (n0 := 1) (n1 := 5120) 0 j) = argS m c (ix1 (n0 := 5120) j) := by
  refine Eq.trans ?_ (V1_apply m c 0 j)
  blk_ext [iblk, idx2 t]

theorem hz2 : (![0, 0] : Fin 2 → Nat) = fun _ => 0 := funext fun a => by fin_cases a <;> rfl
theorem hz3 : (![0, 0, 0] : Fin 3 → Nat) = fun _ => 0 := funext fun a => by fin_cases a <;> rfl

theorem out4_eq (x0 : Vec Ideal S8192x3456 .bf16) (x1 : Vec Ideal S3456x5120 .fp8e4m3) (x2 : Vec Ideal S1x5120 .f32) :
    out0_4 x0 x1 x2 = k0_pay6 x0 := by
  unfold out0_4
  rw [View.canon_unit_zero hz2, View.ld_unit_zero hz2]

theorem out5_eq (x0 : Vec Ideal S8192x3456 .bf16) (x1 : Vec Ideal S3456x5120 .fp8e4m3) (x2 : Vec Ideal S1x5120 .f32) :
    out0_5 x0 x1 x2 = k0_pay2 (k0_pay5 x0) := by
  unfold out0_5
  rw [View.canon_unit_zero hz3, View.ld_unit_zero hz2]

theorem out3_eq (x0 : Vec Ideal S8192x3456 .bf16) (x1 : Vec Ideal S3456x5120 .fp8e4m3) (x2 : Vec Ideal S1x5120 .f32) :
    out0_3 x0 x1 x2 = k0_pay1 (k0_pay7 x0 x1 x2) (k0_pay8 x0 x1 x2) := by
  unfold out0_3
  rw [View.canon_unit_zero hz3, View.ld_unit_zero hz2, View.ld_unit_zero hz2, View.ld_unit_zero hz2]

theorem final4 (c : Dev nD) : (dats m 0 c).arrAt 4 cfg0.N = (Rows.allCodes (argX m c) : S8192x3456.Idx → EReal) := by
  refine (dats m 0 c).arrAt_eq_of_covers 4 _ (by decide +kernel) fun t hf y => ?_
  blk_simp
  rw [after0_4, out4_eq]
  have e0 : ((win0_4.blk t).view.emb y) 0 = y 0 := Fin.ext (by blk_simp [idx4 t]; try rfl)
  have e1 : ((win0_4.blk t).view.emb y) 1 = y 1 := Fin.ext (by blk_simp [idx4 t]; try rfl)
  refine (congrArg (k0_pay6 (iblk m c 0 t)) (eq_ix2 y)).trans ((ref_codes _ _ _).trans ?_)
  exact (congrArg (fun r => Rows.rowCode r (y 1)) ((xrow_iblk m c t (y 0)).trans (congrArg (Rows.arow (argX m c)) e0.symm))).trans
    (congrArg (Rows.rowCode _) e1.symm)

theorem final5 (c : Dev nD) : (dats m 0 c).arrAt 5 cfg0.N = (Rows.allScales (argX m c) : S16x1x512.Idx → EReal) := by
  refine (dats m 0 c).arrAt_eq_of_covers 5 _ (by decide +kernel) fun t hf y => ?_
  blk_simp
  rw [after0_5, out5_eq]
  have e0 : ((win0_5.blk t).view.emb y) 0 = y 0 := Fin.ext (by blk_simp [idx5 t]; try rfl)
  have e2 : ((win0_5.blk t).view.emb y) 2 = y 2 := Fin.ext (by blk_simp [idx5 t]; try rfl)
  have hy : y = ix3 (n0 := 16) (n1 := 1) (n2 := 512) (y 0) 0 (y 2) := by
    funext a
    match a with
    | ⟨0, _⟩ => rfl
    | ⟨1, _⟩ => exact Subsingleton.elim (α := Fin 1) _ _
    | ⟨2, _⟩ => rfl
  refine (congrArg (k0_pay2 (k0_pay5 (iblk m c 0 t))) hy).trans ((ref_scales _ _ _).trans ?_)
  refine congrArg Rows.rowScale ((xrow_iblk m c t (srow (y 0) (y 2))).trans (congrArg (Rows.arow (argX m c)) (Fin.ext ?_)))
  exact congrArg₂ (fun (i : Fin 16) (j : Fin 512) => i.val * 512 + j.val) e0.symm e2.symm

theorem final3 (c : Dev nD) : (dats m 0 c).arrAt 3 cfg0.N = (Rows.allY (argX m c) (argW m c) (argS m c) : S1024x8x5120.Idx → EReal) := by
  refine (dats m 0 c).arrAt_eq_of_covers 3 _ (by decide +kernel) fun t hf y => ?_
  blk_simp
  rw [after0_3, out3_eq]
  have e0 : ((win0_3.blk t).view.emb y) 0 = y 0 := Fin.ext (by blk_simp [idx3 t]; try rfl)
  have e1 : ((win0_3.blk t).view.emb y) 1 = y 1 := Fin.ext (by blk_simp [idx3 t]; try rfl)
  have e2 : ((win0_3.blk t).view.emb y) 2 = y 2 := Fin.ext (by blk_simp [idx3 t]; try rfl)
  refine (congrArg (k0_pay1 _ _) (eq_ix3 y)).trans ((ref_y _ _ _ _ _ _).trans ?_)
  have er : yrow (y 0) (y 1) = Rows.yRow (((win0_3.blk t).view.emb y) 0) (((win0_3.blk t).view.emb y) 1) :=
    Fin.ext (congrArg₂ (fun (i : Fin 1024) (j : Fin 8) => i.val * 8 + j.val) e0.symm e1.symm)
  have hx := (xrow_iblk m c t (yrow (y 0) (y 1))).trans (congrArg (Rows.arow (argX m c)) er)
  refine Rows.layer_congr (congrArg Rows.rowCode hx) (funext fun k => ?_) (congrArg Rows.rowScale hx) ?_
  · refine (w_iblk m c t k (y 2)).trans ?_
    exact congrArg (fun j => argW m c (ix2 (n0 := 3456) (n1 := 5120) k j)) e2.symm
  · refine (ws_iblk m c t (y 2)).trans ?_
    exact congrArg (fun j => argS m c (ix1 (n0 := 5120) j)) e2.symm

/-- The run, read: the three results as functions of the arguments, the arguments unchanged. -/
theorem run_values : θ_run defs (onTc (τ := τ) (main (F := Ideal))) ⟨m, fun _ => 0, ρ⟩ (fun r => ∀ c : Dev nD,
      r.2.mem ((c.tc : Thread nD τ).loc main_v2_0) = (Rows.allY (argX m c) (argW m c) (argS m c) : S1024x8x5120.Idx → EReal)
      ∧ r.2.mem ((c.tc : Thread nD τ).loc main_v2_1) = (Rows.allCodes (argX m c) : S8192x3456.Idx → EReal)
      ∧ r.2.mem ((c.tc : Thread nD τ).loc main_v2_2) = (Rows.allScales (argX m c) : S16x1x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.KernelValues
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefValues
public import Idealize.ShloMosaic.Adequacy
public import Idealize.ShloMosaic.Init

@[expose] public section

noncomputable section

namespace Cert.Proof

open Idealize.ShloMosaic Idealize.SL.Sem Cert.Kernel

/-- The kernel and the reference, from equal arguments, end with equal results: both end with the layer, the codes and
    the scales that `Cert.Rows` states of each row. -/
theorem algebraic : letI := Cert.KernelIdeal.Gen.facts; letI := Cert.ReferenceIdeal.Gen.facts; algebraic_KernelIdeal_ReferenceIdeal := by
  intro m g m' g' _ h
  refine ⟨fun c => Rows.allY (KernelIdeal.Gen.argX m c) (KernelIdeal.Gen.argW m c) (KernelIdeal.Gen.argS m c),
    fun c => Rows.allCodes (KernelIdeal.Gen.argX m c), fun c => Rows.allScales (KernelIdeal.Gen.argX m c),
    KernelIdeal.Gen.run_values m g, ?_⟩
  have h0 : ∀ c, ReferenceIdeal.Gen.argX m' c = KernelIdeal.Gen.argX m c := fun c => (h c).1
  have h1 : ∀ c, ReferenceIdeal.Gen.argW m' c = KernelIdeal.Gen.argW m c := fun c => (h c).2.1
  have h2 : ∀ c, ReferenceIdeal.Gen.argS m' c = KernelIdeal.Gen.argS m c := fun c => (h c).2.2
  refine (θ_run ReferenceIdeal.defs _ _).mono (fun r hr c => ?_) (ReferenceIdeal.Gen.run_values m' g')
  have hc := hr c
  rw [h0 c, h1 c, h2 c] at hc
  exact hc

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
